-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_all_finite.lean ====
abbrev S16x2048x2560 : Shape := ⟨3, ![16, 2048, 2560]⟩
abbrev S_ : Shape := ⟨0, ![]⟩

class Facts : Prop where
  bcast_S_S16x2048x2560 : S_.BroadcastsInDim S16x2048x2560 (![] : Fin 0 → Fin S16x2048x2560.rank)
  reducesTo_S16x2048x2560_S_d0_1_2 : S16x2048x2560.ReducesTo [0, 1, 2] S_
  h_S_ : 0 < S_.numel

variable [Facts]

def fn {F : FTy → Type} [FloatOps F] (main_arg0 : FVec F S16x2048x2560 .f32) : IVec S_ 1 :=
  let main_v0 : FVec F S16x2048x2560 .f32 := Host.absf main_arg0
  let main_cst : FVec F S_ .f32 := constant S_ .f32 0x7F800000#32
  let main_v1 : FVec F S16x2048x2560 .f32 := broadcastInDim S16x2048x2560 ![] bcast_S_S16x2048x2560 main_cst
  let main_v2 : IVec S16x2048x2560 1 := cmpf .olt main_v0 main_v1
  let main_c : IVec S_ 1 := constantI S_ 1 1#1
  let main_v3 : IVec S_ 1 := (fun x v => Host.reduce IntOp.andi x v reducesTo_S16x2048x2560_S_d0_1_2 h_S_) main_v2 main_c
  main_v3
-- ==== Kernel.lean ====
abbrev S16x2048x2560 : Shape := ⟨3, ![16, 2048, 2560]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S8 : Shape := ⟨1, ![8]⟩
abbrev S8x1x1 : Shape := ⟨3, ![8, 1, 1]⟩
abbrev S256 : Shape := ⟨1, ![256]⟩
abbrev S1x256x1 : Shape := ⟨3, ![1, 256, 1]⟩
abbrev S8x256x1 : Shape := ⟨3, ![8, 256, 1]⟩
abbrev S512 : Shape := ⟨1, ![512]⟩
abbrev S1x1x512 : Shape := ⟨3, ![1, 1, 512]⟩
abbrev S8x256x512 : Shape := ⟨3, ![8, 256, 512]⟩
abbrev S16x2048x512 : Shape := ⟨3, ![16, 2048, 512]⟩
abbrev S1x2048x128 : Shape := ⟨3, ![1, 2048, 128]⟩
abbrev S1x256x128 : Shape := ⟨3, ![1, 256, 128]⟩
abbrev S256x128 : Shape := ⟨2, ![256, 128]⟩
abbrev S256x1 : Shape := ⟨2, ![256, 1]⟩
abbrev S512x128 : Shape := ⟨2, ![512, 128]⟩
abbrev S1x256x512 : Shape := ⟨3, ![1, 256, 512]⟩
abbrev S256x512 : Shape := ⟨2, ![256, 512]⟩

abbrev nBuf : Space → Nat
  | .hbm => 149
  | .vmem => 16
  | .smem => 0
  | _ => 0

abbrev hbmTy0_0 (i : Nat) : BufTy := match i % 128 with
  | 0 => ⟨S16x2048x2560, .f32⟩
  | 1 => ⟨S32, .f32⟩
  | 2 => ⟨S_, .f32⟩
  | 3 => ⟨S32, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S2048, .f32⟩
  | 12 => ⟨S2048x1, .f32⟩
  | 13 => ⟨S1x32, .f32⟩
  | 14 => ⟨S2048x32, .f32⟩
  | 15 => ⟨S2048x32, .f32⟩
  | 16 => ⟨S2048x32, .f32⟩
  | 17 => ⟨S2048x32, .f32⟩
  | 18 => ⟨S1x2048x1x32, .f32⟩
  | 19 => ⟨S1x2048x4x32, .f32⟩
  | 20 => ⟨S2048x128, .f32⟩
  | 21 => ⟨S2048x32, .f32⟩
  | 22 => ⟨S1x2048x1x32, .f32⟩
  | 23 => ⟨S1x2048x4x32, .f32⟩
  | 24 => ⟨S2048x128, .f32⟩
  | 25 => ⟨S8, .i32⟩
  | 26 => ⟨S8x1x1, .i32⟩
  | 27 => ⟨S_, .i32⟩
  | 28 => ⟨S8x1x1, .i32⟩
  | 29 => ⟨S8x1x1, .i32⟩
  | 30 => ⟨S256, .i32⟩
  | 31 => ⟨S1x256x1, .i32⟩
  | 32 => ⟨S8x256x1, .i32⟩
  | 33 => ⟨S8x256x1, .i32⟩
  | 34 => ⟨S8x256x1, .i32⟩
  | 35 => ⟨S512, .i32⟩
  | 36 => ⟨S1x1x512, .i32⟩
  | 37 => ⟨S8x256x512, .i32⟩
  | 38 => ⟨S8x256x512, .i32⟩
  | 39 => ⟨S8x256x512, .i32⟩
  | 40 => ⟨S_, .f32⟩
  | 41 => ⟨S8x256x512, .f32⟩
  | 42 => ⟨S_, .i32⟩
  | 43 => ⟨S8x256x512, .i32⟩
  | 44 => ⟨S8x256x512, .i1⟩
  | 45 => ⟨S_, .i32⟩
  | 46 => ⟨S8x256x512, .i32⟩
  | 47 => ⟨S8x256x512, .i1⟩
  | 48 => ⟨S8x256x512, .i1⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S8x256x512, .i32⟩
  | 56 => ⟨S8x256x512, .i32⟩
  | 57 => ⟨S_, .i32⟩
  | 58 => ⟨S8x256x512, .i32⟩
  | 59 => ⟨S8x256x512, .i1⟩
  | 60 => ⟨S_, .i32⟩
  | 61 => ⟨S8x256x512, .i32⟩
  | 62 => ⟨S8x256x512, .i1⟩
  | 63 => ⟨S_, .i32⟩
  | 64 => ⟨S_, .i1⟩
  | 65 => ⟨S8x256x512, .i1⟩
  | 66 => ⟨S8x256x512, .i1⟩
  | 67 => ⟨S8x256x512, .i1⟩
  | 68 => ⟨S8x256x512, .i32⟩
  | 69 => ⟨S8x256x512, .i32⟩
  | 70 => ⟨S8x256x512, .i32⟩
  | 71 => ⟨S_, .i32⟩
  | 72 => ⟨S8x256x512, .i32⟩
  | 73 => ⟨S8x256x512, .i1⟩
  | 74 => ⟨S8x256x512, .i1⟩
  | 75 => ⟨S8x256x512, .f32⟩
  | 76 => ⟨S8x256x512, .f32⟩
  | 77 => ⟨S_, .i32⟩
  | 78 => ⟨S8x256x512, .i32⟩
  | 79 => ⟨S8x256x512, .i1⟩
  | 80 => ⟨S_, .i32⟩
  | 81 => ⟨S8x256x512, .i32⟩
  | 82 => ⟨S8x256x512, .i1⟩
  | 83 => ⟨S8x256x512, .i1⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S8x256x512, .i32⟩
  | 91 => ⟨S8x256x512, .i32⟩
  | 92 => ⟨S_, .i32⟩
  | 93 => ⟨S8x256x512, .i32⟩
  | 94 => ⟨S8x256x512, .i1⟩
  | 95 => ⟨S_, .i32⟩
  | 96 => ⟨S8x256x512, .i32⟩
  | 97 => ⟨S8x256x512, .i1⟩
  | 98 => ⟨S_, .i32⟩
  | 99 => ⟨S_, .i1⟩
  | 100 => ⟨S8x256x512, .i1⟩
  | 101 => ⟨S8x256x512, .i1⟩
  | 102 => ⟨S8x256x512, .i1⟩
  | 103 => ⟨S8x256x512, .i32⟩
  | 104 => ⟨S8x256x512, .i32⟩
  | 105 => ⟨S8x256x512, .i32⟩
  | 106 => ⟨S_, .i32⟩
  | 107 => ⟨S8x256x512, .i32⟩
  | 108 => ⟨S8x256x512, .i1⟩
  | 109 => ⟨S8x256x512, .i1⟩
  | 110 => ⟨S8x256x512, .f32⟩
  | 111 => ⟨S8x256x512, .f32⟩
  | 112 => ⟨S_, .i32⟩
  | 113 => ⟨S8x256x512, .i32⟩
  | 114 => ⟨S8x256x512, .i1⟩
  | 115 => ⟨S_, .i32⟩
  | 116 => ⟨S8x256x512, .i32⟩
  | 117 => ⟨S8x256x512, .i1⟩
  | 118 => ⟨S8x256x512, .i1⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S8x256x512, .i32⟩
  | 126 => ⟨S8x256x512, .i32⟩
  | 127 => ⟨S_, .i32⟩
  | _ => ⟨S16x2048x2560, .f32⟩

abbrev hbmTy0_1 (i : Nat) : BufTy := match i % 128 with
  | 0 => ⟨S8x256x512, .i32⟩
  | 1 => ⟨S8x256x512, .i1⟩
  | 2 => ⟨S_, .i32⟩
  | 3 => ⟨S8x256x512, .i32⟩
  | 4 => ⟨S8x256x512, .i1⟩
  | 5 => ⟨S_, .i32⟩
  | 6 => ⟨S_, .i1⟩
  | 7 => ⟨S8x256x512, .i1⟩
  | 8 => ⟨S8x256x512, .i1⟩
  | 9 => ⟨S8x256x512, .i1⟩
  | 10 => ⟨S8x256x512, .i32⟩
  | 11 => ⟨S8x256x512, .i32⟩
  | 12 => ⟨S8x256x512, .i32⟩
  | 13 => ⟨S_, .i32⟩
  | 14 => ⟨S8x256x512, .i32⟩
  | 15 => ⟨S8x256x512, .i1⟩
  | 16 => ⟨S8x256x512, .i1⟩
  | 17 => ⟨S8x256x512, .f32⟩
  | 18 => ⟨S8x256x512, .f32⟩
  | 19 => ⟨S8x256x512, .bf16⟩
  | 20 => ⟨S16x2048x512, .f32⟩
  | _ => ⟨S16x2048x2560, .f32⟩

abbrev hbmTy (i : Nat) : BufTy := match i / 128 with
  | 0 => hbmTy0_0 i
  | 1 => hbmTy0_1 i
  | _ => ⟨S16x2048x2560, .f32⟩

abbrev bufTy : (tb : Table) → Fin (tcTables nBuf tb) → BufTy
  | .hbm, ⟨i, _⟩ => hbmTy i
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S2048x128, .f32⟩
  | .local _ .vmem, ⟨7, _⟩ => ⟨S2048x128, .f32⟩
  | .local _ .vmem, ⟨8, _⟩ => ⟨S8x256x512, .bf16⟩
  | .local _ .vmem, ⟨9, _⟩ => ⟨S1x256x128, .f32⟩
  | .local _ .vmem, ⟨10, _⟩ => ⟨S1x256x128, .f32⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | _, _ => ⟨S16x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_2 : Ref sig .tc := ⟨.hbm, 40, rfl⟩
abbrev main_v35 : Ref sig .tc := ⟨.hbm, 41, rfl⟩
abbrev main_c_3 : Ref sig .tc := ⟨.hbm, 42, rfl⟩
abbrev main_v36 : Ref sig .tc := ⟨.hbm, 43, rfl⟩
abbrev main_v37 : Ref sig .tc := ⟨.hbm, 44, rfl⟩
abbrev main_c_4 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_c_5 : Ref sig .tc := ⟨.hbm, 49, rfl⟩
abbrev main_call0_v0 : Ref sig .tc := ⟨.hbm, 50, rfl⟩
abbrev main_call0_c : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_c_1 : Ref sig .tc := ⟨.hbm, 57, rfl⟩
abbrev main_call0_v5 : Ref sig .tc := ⟨.hbm, 58, rfl⟩
abbrev main_call0_v6 : Ref sig .tc := ⟨.hbm, 59, rfl⟩
abbrev main_call0_c_2 : Ref sig .tc := ⟨.hbm, 60, rfl⟩
abbrev main_call0_v7 : Ref sig .tc := ⟨.hbm, 61, rfl⟩
abbrev main_call0_v8 : Ref sig .tc := ⟨.hbm, 62, rfl⟩
abbrev main_call0_c_3 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_v41 : Ref sig .tc := ⟨.hbm, 70, rfl⟩
abbrev main_c_6 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_7 : Ref sig .tc := ⟨.hbm, 77, rfl⟩
abbrev main_v47 : Ref sig .tc := ⟨.hbm, 78, rfl⟩
abbrev main_v48 : Ref sig .tc := ⟨.hbm, 79, rfl⟩
abbrev main_c_8 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_9 : Ref sig .tc := ⟨.hbm, 84, rfl⟩
abbrev main_call1_v0 : Ref sig .tc := ⟨.hbm, 85, rfl⟩
abbrev main_call1_c : Ref sig .tc := ⟨.hbm, 86, rfl⟩
abbrev main_call1_v1 : Ref sig .tc := ⟨.hbm, 87, rfl⟩
abbrev main_call1_c_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_c_1 : Ref sig .tc := ⟨.hbm, 92, rfl⟩
abbrev main_call1_v5 : Ref sig .tc := ⟨.hbm, 93, rfl⟩
abbrev main_call1_v6 : Ref sig .tc := ⟨.hbm, 94, rfl⟩
abbrev main_call1_c_2 : Ref sig .tc := ⟨.hbm, 95, rfl⟩
abbrev main_call1_v7 : Ref sig .tc := ⟨.hbm, 96, rfl⟩
abbrev main_call1_v8 : Ref sig .tc := ⟨.hbm, 97, rfl⟩
abbrev main_call1_c_3 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_v12 : Ref sig .tc := ⟨.hbm, 102, rfl⟩
abbrev main_call1_v13 : Ref sig .tc := ⟨.hbm, 103, rfl⟩
abbrev main_call1_v14 : Ref sig .tc := ⟨.hbm, 104, rfl⟩
abbrev main_v52 : Ref sig .tc := ⟨.hbm, 105, rfl⟩
abbrev main_c_10 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_c_11 : Ref sig .tc := ⟨.hbm, 112, rfl⟩
abbrev main_v58 : Ref sig .tc := ⟨.hbm, 113, rfl⟩
abbrev main_v59 : Ref sig .tc := ⟨.hbm, 114, rfl⟩
abbrev main_c_12 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_c_13 : Ref sig .tc := ⟨.hbm, 119, rfl⟩
abbrev main_call2_v0 : Ref sig .tc := ⟨.hbm, 120, rfl⟩
abbrev main_call2_c : Ref sig .tc := ⟨.hbm, 121, rfl⟩
abbrev main_call2_v1 : Ref sig .tc := ⟨.hbm, 122, rfl⟩
abbrev main_call2_c_0 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_c_1 : Ref sig .tc := ⟨.hbm, 127, rfl⟩
abbrev main_call2_v5 : Ref sig .tc := ⟨.hbm, 128, rfl⟩
abbrev main_call2_v6 : Ref sig .tc := ⟨.hbm, 129, rfl⟩
abbrev main_call2_c_2 : Ref sig .tc := ⟨.hbm, 130, rfl⟩
abbrev main_call2_v7 : Ref sig .tc := ⟨.hbm, 131, rfl⟩
abbrev main_call2_v8 : Ref sig .tc := ⟨.hbm, 132, rfl⟩
abbrev main_call2_c_3 : Ref sig .tc := ⟨.hbm, 133, rfl⟩
abbrev main_call2_v9 : Ref sig .tc := ⟨.hbm, 134, rfl⟩
abbrev main_call2_v10 : Ref sig .tc := ⟨.hbm, 135, rfl⟩
abbrev main_call2_v11 : Ref sig .tc := ⟨.hbm, 136, rfl⟩
abbrev main_call2_v12 : Ref sig .tc := ⟨.hbm, 137, rfl⟩
abbrev main_call2_v13 : Ref sig .tc := ⟨.hbm, 138, rfl⟩
abbrev main_call2_v14 : Ref sig .tc := ⟨.hbm, 139, rfl⟩
abbrev main_v63 : Ref sig .tc := ⟨.hbm, 140, rfl⟩
abbrev main_c_14 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![16, 4, 8], ![false, false, false]⟩

def k0_mult1 (i : grid0.Coords) : BitVec 32 :=
  let arg2 : BitVec 32 := BitVec.ofNat 32 (i 2).val
  let c256_i32 : BitVec 32 := 256#32
  let v3 : BitVec 32 := Scalar.muli arg2 c256_i32
  v3
def k0_off1 (i : grid0.Coords) : Fin 2 → Nat :=
  let arg2 : BitVec 32 := BitVec.ofNat 32 (i 2).val
  let c256_i32 : BitVec 32 := 256#32
  let v3 : BitVec 32 := Scalar.muli arg2 c256_i32
  let v4 : BitVec 32 := v3
  let v5 : Index := Scalar.indexCast v4
  let c0 : Index := 0#32
  ![v5.toNat, 0]
@[reducible] def k0_t1_loop (i : grid0.Coords) : Scf.Loop 32 :=
  let c0_i32_9 : BitVec 32 := 0#32
  let arg2 : BitVec 32 := BitVec.ofNat 32 (i 2).val
  let c0_i32_3 : BitVec 32 := 0#32
  let v15 : BitVec 1 := Scalar.cmpi .sgt arg2 c0_i32_3
  let v16 : BitVec 32 := Scalar.extui v15
  let c0_i32_4 : BitVec 32 := 0#32
  let v17 : BitVec 1 := Scalar.cmpi .slt arg2 c0_i32_4
  let v18 : BitVec 32 := Scalar.extui v17
  let v19 : BitVec 32 := Scalar.subi v16 v18
  let c2_i32 : BitVec 32 := 2#32
  let c0_i32_5 : BitVec 32 := 0#32
  let v20 : BitVec 1 := Scalar.cmpi .sgt c2_i32 c0_i32_5
  let v21 : BitVec 32 := Scalar.extui v20
  let c0_i32_6 : BitVec 32 := 0#32
  let v22 : BitVec 1 := Scalar.cmpi .slt c2_i32 c0_i32_6
  let v23 : BitVec 32 := Scalar.extui v22
  let v24 : BitVec 32 := Scalar.subi v21 v23
  let v25 : BitVec 1 := Scalar.cmpi .ne v19 v24
  let v26 : BitVec 32 := Scalar.remsi arg2 c2_i32
  let c0_i32_7 : BitVec 32 := 0#32
  let v27 : BitVec 1 := Scalar.cmpi .ne v26 c0_i32_7
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let c1_i32_8 : BitVec 32 := 1#32
  let v31 : BitVec 32 := Scalar.addi v30 c1_i32_8
  let v32 : BitVec 32 := Scalar.subi v31 c0_i32_9
  let c1_i32_10 : BitVec 32 := 1#32
  let v34 : BitVec 32 := Scalar.divsi v32 c1_i32_10
  let v35 : BitVec 32 := Scalar.muli v34 c1_i32_10
  let v36 : BitVec 32 := Scalar.addi c0_i32_9 v35
  let c1_i32_11 : BitVec 32 := 1#32
  ⟨c0_i32_9, v36, c1_i32_11⟩
def k0_mult2 (i : grid0.Coords) (k0_t1 : Fin (k0_t1_loop i).trips) : BitVec 32 :=
  let c0_i32_9 : BitVec 32 := 0#32
  let c1_i32_11 : BitVec 32 := 1#32
  let arg15 : BitVec 32 := Scf.iv c0_i32_9 c1_i32_11 k0_t1
  let c512_i32 : BitVec 32 := 512#32
  let v47 : BitVec 32 := Scalar.muli arg15 c512_i32
  v47
def k0_off2 (i : grid0.Coords) (k0_t1 : Fin (k0_t1_loop i).trips) : Fin 2 → Nat :=
  let c0_i32_9 : BitVec 32 := 0#32
  let c1_i32_11 : BitVec 32 := 1#32
  let arg15 : BitVec 32 := Scf.iv c0_i32_9 c1_i32_11 k0_t1
  let c512_i32 : BitVec 32 := 512#32
  let v47 : BitVec 32 := Scalar.muli arg15 c512_i32
  let v48 : BitVec 32 := v47
  let v49 : Index := Scalar.indexCast v48
  let c0_18 : Index := 0#32
  ![v49.toNat, 0]
def k0_off3 (i : grid0.Coords) (k0_t1 : Fin (k0_t1_loop i).trips) : Fin 3 → Nat :=
  let arg2 : BitVec 32 := BitVec.ofNat 32 (i 2).val
  let c0_i32_9 : BitVec 32 := 0#32
  let c1_i32_11 : BitVec 32 := 1#32
  let arg15 : BitVec 32 := Scf.iv c0_i32_9 c1_i32_11 k0_t1
  let c2_i32_19 : BitVec 32 := 2#32
  let v51 : BitVec 32 := Scalar.muli arg15 c2_i32_19
  let v52 : BitVec 32 := Scalar.subi arg2 v51
  let v53 : Index := Scalar.indexCast v52
  let c0_20 : Index := 0#32
  let c0_21 : Index := 0#32
  ![v53.toNat, 0, 0]
@[reducible] def k0_t2_loop (i : grid0.Coords) : Scf.Loop 32 :=
  let c0_i32_9 : BitVec 32 := 0#32
  let arg2 : BitVec 32 := BitVec.ofNat 32 (i 2).val
  let c0_i32_3 : BitVec 32 := 0#32
  let v15 : BitVec 1 := Scalar.cmpi .sgt arg2 c0_i32_3
  let v16 : BitVec 32 := Scalar.extui v15
  let c0_i32_4 : BitVec 32 := 0#32
  let v17 : BitVec 1 := Scalar.cmpi .slt arg2 c0_i32_4
  let v18 : BitVec 32 := Scalar.extui v17
  let v19 : BitVec 32 := Scalar.subi v16 v18
  let c2_i32 : BitVec 32 := 2#32
  let c0_i32_5 : BitVec 32 := 0#32
  let v20 : BitVec 1 := Scalar.cmpi .sgt c2_i32 c0_i32_5
  let v21 : BitVec 32 := Scalar.extui v20
  let c0_i32_6 : BitVec 32 := 0#32
  let v22 : BitVec 1 := Scalar.cmpi .slt c2_i32 c0_i32_6
  let v23 : BitVec 32 := Scalar.extui v22
  let v24 : BitVec 32 := Scalar.subi v21 v23
  let v25 : BitVec 1 := Scalar.cmpi .ne v19 v24
  let v26 : BitVec 32 := Scalar.remsi arg2 c2_i32
  let c0_i32_7 : BitVec 32 := 0#32
  let v27 : BitVec 1 := Scalar.cmpi .ne v26 c0_i32_7
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let c1_i32_8 : BitVec 32 := 1#32
  let v31 : BitVec 32 := Scalar.addi v30 c1_i32_8
  let v32 : BitVec 32 := Scalar.subi v31 c0_i32_9
  let c1_i32_10 : BitVec 32 := 1#32
  let v34 : BitVec 32 := Scalar.divsi v32 c1_i32_10
  let v35 : BitVec 32 := Scalar.muli v34 c1_i32_10
  let v36 : BitVec 32 := Scalar.addi c0_i32_9 v35
  let v33 : BitVec 32 := Scalar.addi c0_i32_9 v32
  let c1_i32_12 : BitVec 32 := 1#32
  ⟨v36, v33, c1_i32_12⟩
def k0_mult3 (i : grid0.Coords) (k0_t2 : Fin (k0_t2_loop i).trips) : BitVec 32 :=
  let c0_i32_9 : BitVec 32 := 0#32
  let arg2 : BitVec 32 := BitVec.ofNat 32 (i 2).val
  let c0_i32_3 : BitVec 32 := 0#32
  let v15 : BitVec 1 := Scalar.cmpi .sgt arg2 c0_i32_3
  let v16 : BitVec 32 := Scalar.extui v15
  let c0_i32_4 : BitVec 32 := 0#32
  let v17 : BitVec 1 := Scalar.cmpi .slt arg2 c0_i32_4
  let v18 : BitVec 32 := Scalar.extui v17
  let v19 : BitVec 32 := Scalar.subi v16 v18
  let c2_i32 : BitVec 32 := 2#32
  let c0_i32_5 : BitVec 32 := 0#32
  let v20 : BitVec 1 := Scalar.cmpi .sgt c2_i32 c0_i32_5
  let v21 : BitVec 32 := Scalar.extui v20
  let c0_i32_6 : BitVec 32 := 0#32
  let v22 : BitVec 1 := Scalar.cmpi .slt c2_i32 c0_i32_6
  let v23 : BitVec 32 := Scalar.extui v22
  let v24 : BitVec 32 := Scalar.subi v21 v23
  let v25 : BitVec 1 := Scalar.cmpi .ne v19 v24
  let v26 : BitVec 32 := Scalar.remsi arg2 c2_i32
  let c0_i32_7 : BitVec 32 := 0#32
  let v27 : BitVec 1 := Scalar.cmpi .ne v26 c0_i32_7
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let c1_i32_8 : BitVec 32 := 1#32
  let v31 : BitVec 32 := Scalar.addi v30 c1_i32_8
  let v32 : BitVec 32 := Scalar.subi v31 c0_i32_9
  let c1_i32_10 : BitVec 32 := 1#32
  let v34 : BitVec 32 := Scalar.divsi v32 c1_i32_10
  let v35 : BitVec 32 := Scalar.muli v34 c1_i32_10
  let v36 : BitVec 32 := Scalar.addi c0_i32_9 v35
  let c1_i32_12 : BitVec 32 := 1#32
  let arg15 : BitVec 32 := Scf.iv v36 c1_i32_12 k0_t2
  let c512_i32 : BitVec 32 := 512#32
  let v47 : BitVec 32 := Scalar.muli arg15 c512_i32
  v47
def k0_off4 (i : grid0.Coords) (k0_t2 : Fin (k0_t2_loop i).trips) : Fin 2 → Nat :=
  let c0_i32_9 : BitVec 32 := 0#32
  let arg2 : BitVec 32 := BitVec.ofNat 32 (i 2).val
  let c0_i32_3 : BitVec 32 := 0#32
  let v15 : BitVec 1 := Scalar.cmpi .sgt arg2 c0_i32_3
  let v16 : BitVec 32 := Scalar.extui v15
  let c0_i32_4 : BitVec 32 := 0#32
  let v17 : BitVec 1 := Scalar.cmpi .slt arg2 c0_i32_4
  let v18 : BitVec 32 := Scalar.extui v17
  let v19 : BitVec 32 := Scalar.subi v16 v18
  let c2_i32 : BitVec 32 := 2#32
  let c0_i32_5 : BitVec 32 := 0#32
  let v20 : BitVec 1 := Scalar.cmpi .sgt c2_i32 c0_i32_5
  let v21 : BitVec 32 := Scalar.extui v20
  let c0_i32_6 : BitVec 32 := 0#32
  let v22 : BitVec 1 := Scalar.cmpi .slt c2_i32 c0_i32_6
  let v23 : BitVec 32 := Scalar.extui v22
  let v24 : BitVec 32 := Scalar.subi v21 v23
  let v25 : BitVec 1 := Scalar.cmpi .ne v19 v24
  let v26 : BitVec 32 := Scalar.remsi arg2 c2_i32
  let c0_i32_7 : BitVec 32 := 0#32
  let v27 : BitVec 1 := Scalar.cmpi .ne v26 c0_i32_7
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let c1_i32_8 : BitVec 32 := 1#32
  let v31 : BitVec 32 := Scalar.addi v30 c1_i32_8
  let v32 : BitVec 32 := Scalar.subi v31 c0_i32_9
  let c1_i32_10 : BitVec 32 := 1#32
  let v34 : BitVec 32 := Scalar.divsi v32 c1_i32_10
  let v35 : BitVec 32 := Scalar.muli v34 c1_i32_10
  let v36 : BitVec 32 := Scalar.addi c0_i32_9 v35
  let c1_i32_12 : BitVec 32 := 1#32
  let arg15 : BitVec 32 := Scf.iv v36 c1_i32_12 k0_t2
  let c512_i32 : BitVec 32 := 512#32
  let v47 : BitVec 32 := Scalar.muli arg15 c512_i32
  let v48 : BitVec 32 := v47
  let v49 : Index := Scalar.indexCast v48
  let c0_18 : Index := 0#32
  ![v49.toNat, 0]
def k0_off5 (i : grid0.Coords) (k0_t2 : Fin (k0_t2_loop i).trips) : Fin 3 → Nat :=
  let arg2 : BitVec 32 := BitVec.ofNat 32 (i 2).val
  let c0_i32_9 : BitVec 32 := 0#32
  let c0_i32_3 : BitVec 32 := 0#32
  let v15 : BitVec 1 := Scalar.cmpi .sgt arg2 c0_i32_3
  let v16 : BitVec 32 := Scalar.extui v15
  let c0_i32_4 : BitVec 32 := 0#32
  let v17 : BitVec 1 := Scalar.cmpi .slt arg2 c0_i32_4
  let v18 : BitVec 32 := Scalar.extui v17
  let v19 : BitVec 32 := Scalar.subi v16 v18
  let c2_i32 : BitVec 32 := 2#32
  let c0_i32_5 : BitVec 32 := 0#32
  let v20 : BitVec 1 := Scalar.cmpi .sgt c2_i32 c0_i32_5
  let v21 : BitVec 32 := Scalar.extui v20
  let c0_i32_6 : BitVec 32 := 0#32
  let v22 : BitVec 1 := Scalar.cmpi .slt c2_i32 c0_i32_6
  let v23 : BitVec 32 := Scalar.extui v22
  let v24 : BitVec 32 := Scalar.subi v21 v23
  let v25 : BitVec 1 := Scalar.cmpi .ne v19 v24
  let v26 : BitVec 32 := Scalar.remsi arg2 c2_i32
  let c0_i32_7 : BitVec 32 := 0#32
  let v27 : BitVec 1 := Scalar.cmpi .ne v26 c0_i32_7
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let c1_i32_8 : BitVec 32 := 1#32
  let v31 : BitVec 32 := Scalar.addi v30 c1_i32_8
  let v32 : BitVec 32 := Scalar.subi v31 c0_i32_9
  let c1_i32_10 : BitVec 32 := 1#32
  let v34 : BitVec 32 := Scalar.divsi v32 c1_i32_10
  let v35 : BitVec 32 := Scalar.muli v34 c1_i32_10
  let v36 : BitVec 32 := Scalar.addi c0_i32_9 v35
  let c1_i32_12 : BitVec 32 := 1#32
  let arg15 : BitVec 32 := Scf.iv v36 c1_i32_12 k0_t2
  let c2_i32_19 : BitVec 32 := 2#32
  let v51 : BitVec 32 := Scalar.muli arg15 c2_i32_19
  let v52 : BitVec 32 := Scalar.subi arg2 v51
  let v53 : Index := Scalar.indexCast v52
  let c0_20 : Index := 0#32
  let c0_21 : Index := 0#32
  ![v53.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S8x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S16x2048x2560 : Shape := ⟨3, ![16, 2048, 2560]⟩
abbrev S16x2048x512 : Shape := ⟨3, ![16, 2048, 512]⟩
abbrev S16x2048x1024 : Shape := ⟨3, ![16, 2048, 1024]⟩
abbrev S2048 : Shape := ⟨1, ![2048]⟩
abbrev S16x2048x8x64 : Shape := ⟨4, ![16, 2048, 8, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S16x2048x8x32 : Shape := ⟨4, ![16, 2048, 8, 32]⟩
abbrev S16x8x2048x64 : Shape := ⟨4, ![16, 8, 2048, 64]⟩
abbrev S129 : Shape := ⟨1, ![129]⟩
abbrev S1x129 : Shape := ⟨2, ![1, 129]⟩
abbrev S2048x129 : Shape := ⟨2, ![2048, 129]⟩
abbrev S2048x129x1 : Shape := ⟨3, ![2048, 129, 1]⟩
abbrev S16x8x2048x129x64 : Shape := ⟨5, ![16, 8, 2048, 129, 64]⟩
abbrev S16x8x2048x129 : Shape := ⟨4, ![16, 8, 2048, 129]⟩
abbrev S16x8x2048 : Shape := ⟨3, ![16, 8, 2048]⟩
abbrev S16x8x2048x1 : Shape := ⟨4, ![16, 8, 2048, 1]⟩
abbrev S1x16x8x2048 : Shape := ⟨4, ![1, 16, 8, 2048]⟩
abbrev S3x16x8x2048 : Shape := ⟨4, ![3, 16, 8, 2048]⟩
abbrev S1x16x8x2048x64 : Shape := ⟨5, ![1, 16, 8, 2048, 64]⟩
abbrev S3x16x8x2048x64 : Shape := ⟨5, ![3, 16, 8, 2048, 64]⟩

abbrev nBuf : Space → Nat
  | .hbm => 228
  | .vmem => 0
  | .smem => 0
  | _ => 0

abbrev hbmTy0_0 (i : Nat) : BufTy := match i % 128 with
  | 0 => ⟨S16x2048x2560, .f32⟩
  | 1 => ⟨S16x2048x512, .f32⟩
  | 2 => ⟨S16x2048x512, .f32⟩
  | 3 => ⟨S16x2048x512, .f32⟩
  | 4 => ⟨S16x2048x1024, .f32⟩
  | 5 => ⟨S2048, .f32⟩
  | 6 => ⟨S16x2048x8x64, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S2048x1, .f32⟩
  | 18 => ⟨S1x32, .f32⟩
  | 19 => ⟨S2048x32, .f32⟩
  | 20 => ⟨S2048x32, .f32⟩
  | 21 => ⟨S2048x32, .f32⟩
  | 22 => ⟨S2048x32, .f32⟩
  | 23 => ⟨S1x2048x1x32, .f32⟩
  | 24 => ⟨S2048x32, .f32⟩
  | 25 => ⟨S1x2048x1x32, .f32⟩
  | 26 => ⟨S16x2048x8x32, .f32⟩
  | 27 => ⟨S16x2048x8x32, .f32⟩
  | 28 => ⟨S16x2048x8x32, .f32⟩
  | 29 => ⟨S16x2048x8x32, .f32⟩
  | 30 => ⟨S16x2048x8x32, .f32⟩
  | 31 => ⟨S16x2048x8x32, .f32⟩
  | 32 => ⟨S16x2048x8x32, .f32⟩
  | 33 => ⟨S16x2048x8x32, .f32⟩
  | 34 => ⟨S16x2048x8x32, .f32⟩
  | 35 => ⟨S16x2048x8x32, .f32⟩
  | 36 => ⟨S16x2048x8x32, .f32⟩
  | 37 => ⟨S16x2048x8x32, .f32⟩
  | 38 => ⟨S16x2048x8x64, .f32⟩
  | 39 => ⟨S16x8x2048x64, .f32⟩
  | 40 => ⟨S16x2048x8x64, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S2048x1, .f32⟩
  | 52 => ⟨S1x32, .f32⟩
  | 53 => ⟨S2048x32, .f32⟩
  | 54 => ⟨S2048x32, .f32⟩
  | 55 => ⟨S2048x32, .f32⟩
  | 56 => ⟨S2048x32, .f32⟩
  | 57 => ⟨S1x2048x1x32, .f32⟩
  | 58 => ⟨S2048x32, .f32⟩
  | 59 => ⟨S1x2048x1x32, .f32⟩
  | 60 => ⟨S16x2048x8x32, .f32⟩
  | 61 => ⟨S16x2048x8x32, .f32⟩
  | 62 => ⟨S16x2048x8x32, .f32⟩
  | 63 => ⟨S16x2048x8x32, .f32⟩
  | 64 => ⟨S16x2048x8x32, .f32⟩
  | 65 => ⟨S16x2048x8x32, .f32⟩
  | 66 => ⟨S16x2048x8x32, .f32⟩
  | 67 => ⟨S16x2048x8x32, .f32⟩
  | 68 => ⟨S16x2048x8x32, .f32⟩
  | 69 => ⟨S16x2048x8x32, .f32⟩
  | 70 => ⟨S16x2048x8x32, .f32⟩
  | 71 => ⟨S16x2048x8x32, .f32⟩
  | 72 => ⟨S16x2048x8x64, .f32⟩
  | 73 => ⟨S16x8x2048x64, .f32⟩
  | 74 => ⟨S16x2048x8x64, .f32⟩
  | 75 => ⟨S16x8x2048x64, .f32⟩
  | 76 => ⟨S2048, .i32⟩
  | 77 => ⟨S129, .i32⟩
  | 78 => ⟨S2048x1, .i32⟩
  | 79 => ⟨S1x129, .i32⟩
  | 80 => ⟨S_, .i32⟩
  | 81 => ⟨S1x129, .i32⟩
  | 82 => ⟨S1x129, .i32⟩
  | 83 => ⟨S2048x129, .i32⟩
  | 84 => ⟨S2048x129, .i32⟩
  | 85 => ⟨S2048x129, .i32⟩
  | 86 => ⟨S_, .i32⟩
  | 87 => ⟨S2048x129, .i32⟩
  | 88 => ⟨S2048x129, .i1⟩
  | 89 => ⟨S_, .i32⟩
  | 90 => ⟨S2048x129, .i32⟩
  | 91 => ⟨S2048x129, .i32⟩
  | 92 => ⟨S2048x129x1, .i32⟩
  | 93 => ⟨S16x8x2048x129x64, .f32⟩
  | 94 => ⟨S2048x129x1, .i32⟩
  | 95 => ⟨S16x8x2048x129x64, .f32⟩
  | 96 => ⟨S16x8x2048x129, .f32⟩
  | 97 => ⟨S_, .f32⟩
  | 98 => ⟨S16x8x2048x129, .f32⟩
  | 99 => ⟨S16x8x2048x129, .f32⟩
  | 100 => ⟨S_, .f32⟩
  | 101 => ⟨S_, .f32⟩
  | 102 => ⟨S16x8x2048x129, .i1⟩
  | 103 => ⟨S16x8x2048x129, .f32⟩
  | 104 => ⟨S16x8x2048x129, .f32⟩
  | 105 => ⟨S_, .f32⟩
  | 106 => ⟨S16x8x2048, .f32⟩
  | 107 => ⟨S16x8x2048x1, .f32⟩
  | 108 => ⟨S16x8x2048x129, .f32⟩
  | 109 => ⟨S16x8x2048x129, .f32⟩
  | 110 => ⟨S16x8x2048x129, .f32⟩
  | 111 => ⟨S_, .f32⟩
  | 112 => ⟨S16x8x2048, .f32⟩
  | 113 => ⟨S16x8x2048x64, .f32⟩
  | 114 => ⟨S16x8x2048x1, .f32⟩
  | 115 => ⟨S16x8x2048x64, .f32⟩
  | 116 => ⟨S16x8x2048x64, .f32⟩
  | 117 => ⟨S16x8x2048, .f32⟩
  | 118 => ⟨S16x8x2048, .f32⟩
  | 119 => ⟨S129, .i32⟩
  | 120 => ⟨S2048x1, .i32⟩
  | 121 => ⟨S1x129, .i32⟩
  | 122 => ⟨S_, .i32⟩
  | 123 => ⟨S1x129, .i32⟩
  | 124 => ⟨S1x129, .i32⟩
  | 125 => ⟨S2048x129, .i32⟩
  | 126 => ⟨S2048x129, .i32⟩
  | 127 => ⟨S2048x129, .i32⟩
  | _ => ⟨S16x2048x2560, .f32⟩

abbrev hbmTy0_1 (i : Nat) : BufTy := match i % 128 with
  | 0 => ⟨S_, .i32⟩
  | 1 => ⟨S2048x129, .i32⟩
  | 2 => ⟨S2048x129, .i1⟩
  | 3 => ⟨S_, .i32⟩
  | 4 => ⟨S2048x129, .i32⟩
  | 5 => ⟨S2048x129, .i32⟩
  | 6 => ⟨S2048x129x1, .i32⟩
  | 7 => ⟨S16x8x2048x129x64, .f32⟩
  | 8 => ⟨S2048x129x1, .i32⟩
  | 9 => ⟨S16x8x2048x129x64, .f32⟩
  | 10 => ⟨S16x8x2048x129, .f32⟩
  | 11 => ⟨S_, .f32⟩
  | 12 => ⟨S16x8x2048x129, .f32⟩
  | 13 => ⟨S16x8x2048x129, .f32⟩
  | 14 => ⟨S_, .f32⟩
  | 15 => ⟨S_, .f32⟩
  | 16 => ⟨S16x8x2048x129, .i1⟩
  | 17 => ⟨S16x8x2048x129, .f32⟩
  | 18 => ⟨S16x8x2048x129, .f32⟩
  | 19 => ⟨S_, .f32⟩
  | 20 => ⟨S16x8x2048, .f32⟩
  | 21 => ⟨S16x8x2048x1, .f32⟩
  | 22 => ⟨S16x8x2048x129, .f32⟩
  | 23 => ⟨S16x8x2048x129, .f32⟩
  | 24 => ⟨S16x8x2048x129, .f32⟩
  | 25 => ⟨S_, .f32⟩
  | 26 => ⟨S16x8x2048, .f32⟩
  | 27 => ⟨S16x8x2048x64, .f32⟩
  | 28 => ⟨S16x8x2048x1, .f32⟩
  | 29 => ⟨S16x8x2048x64, .f32⟩
  | 30 => ⟨S16x8x2048x64, .f32⟩
  | 31 => ⟨S16x8x2048, .f32⟩
  | 32 => ⟨S16x8x2048, .f32⟩
  | 33 => ⟨S129, .i32⟩
  | 34 => ⟨S2048x1, .i32⟩
  | 35 => ⟨S1x129, .i32⟩
  | 36 => ⟨S_, .i32⟩
  | 37 => ⟨S1x129, .i32⟩
  | 38 => ⟨S1x129, .i32⟩
  | 39 => ⟨S2048x129, .i32⟩
  | 40 => ⟨S2048x129, .i32⟩
  | 41 => ⟨S2048x129, .i32⟩
  | 42 => ⟨S_, .i32⟩
  | 43 => ⟨S2048x129, .i32⟩
  | 44 => ⟨S2048x129, .i1⟩
  | 45 => ⟨S_, .i32⟩
  | 46 => ⟨S2048x129, .i32⟩
  | 47 => ⟨S2048x129, .i32⟩
  | 48 => ⟨S2048x129x1, .i32⟩
  | 49 => ⟨S16x8x2048x129x64, .f32⟩
  | 50 => ⟨S2048x129x1, .i32⟩
  | 51 => ⟨S16x8x2048x129x64, .f32⟩
  | 52 => ⟨S16x8x2048x129, .f32⟩
  | 53 => ⟨S_, .f32⟩
  | 54 => ⟨S16x8x2048x129, .f32⟩
  | 55 => ⟨S16x8x2048x129, .f32⟩
  | 56 => ⟨S_, .f32⟩
  | 57 => ⟨S_, .f32⟩
  | 58 => ⟨S16x8x2048x129, .i1⟩
  | 59 => ⟨S16x8x2048x129, .f32⟩
  | 60 => ⟨S16x8x2048x129, .f32⟩
  | 61 => ⟨S_, .f32⟩
  | 62 => ⟨S16x8x2048, .f32⟩
  | 63 => ⟨S16x8x2048x1, .f32⟩
  | 64 => ⟨S16x8x2048x129, .f32⟩
  | 65 => ⟨S16x8x2048x129, .f32⟩
  | 66 => ⟨S16x8x2048x129, .f32⟩
  | 67 => ⟨S_, .f32⟩
  | 68 => ⟨S16x8x2048, .f32⟩
  | 69 => ⟨S16x8x2048x64, .f32⟩
  | 70 => ⟨S16x8x2048x1, .f32⟩
  | 71 => ⟨S16x8x2048x64, .f32⟩
  | 72 => ⟨S16x8x2048x64, .f32⟩
  | 73 => ⟨S16x8x2048, .f32⟩
  | 74 => ⟨S16x8x2048, .f32⟩
  | 75 => ⟨S1x16x8x2048, .f32⟩
  | 76 => ⟨S1x16x8x2048, .f32⟩
  | 77 => ⟨S1x16x8x2048, .f32⟩
  | 78 => ⟨S3x16x8x2048, .f32⟩
  | 79 => ⟨S_, .f32⟩
  | 80 => ⟨S16x8x2048, .f32⟩
  | 81 => ⟨S_, .f32⟩
  | 82 => ⟨S16x8x2048, .f32⟩
  | 83 => ⟨S16x8x2048, .f32⟩
  | 84 => ⟨S1x16x8x2048, .f32⟩
  | 85 => ⟨S3x16x8x2048, .f32⟩
  | 86 => ⟨S3x16x8x2048, .f32⟩
  | 87 => ⟨S3x16x8x2048, .f32⟩
  | 88 => ⟨S_, .f32⟩
  | 89 => ⟨S16x8x2048, .f32⟩
  | 90 => ⟨S1x16x8x2048, .f32⟩
  | 91 => ⟨S3x16x8x2048, .f32⟩
  | 92 => ⟨S3x16x8x2048, .f32⟩
  | 93 => ⟨S1x16x8x2048x64, .f32⟩
  | 94 => ⟨S1x16x8x2048x64, .f32⟩
  | 95 => ⟨S1x16x8x2048x64, .f32⟩
  | 96 => ⟨S3x16x8x2048x64, .f32⟩
  | 97 => ⟨S16x8x2048x64, .f32⟩
  | 98 => ⟨S16x2048x8x64, .f32⟩
  | 99 => ⟨S16x2048x512, .f32⟩
  | _ => ⟨S16x2048x2560, .f32⟩

abbrev hbmTy (i : Nat) : BufTy := match i / 128 with
  | 0 => hbmTy0_0 i
  | 1 => hbmTy0_1 i
  | _ => ⟨S16x2048x2560, .f32⟩

abbrev bufTy : (tb : Table) → Fin (tcTables nBuf tb) → BufTy
  | .hbm, ⟨i, _⟩ => hbmTy i
  | _, _ => ⟨S16x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst_2 : Ref sig .tc := ⟨.hbm, 42, rfl⟩
abbrev main_v38 : Ref sig .tc := ⟨.hbm, 43, rfl⟩
abbrev main_v39 : Ref sig .tc := ⟨.hbm, 44, rfl⟩
abbrev main_cst_3 : Ref sig .tc := ⟨.hbm, 45, rfl⟩
abbrev main_v40 : Ref sig .tc := ⟨.hbm, 46, rfl⟩
abbrev main_v41 : Ref sig .tc := ⟨.hbm, 47, rfl⟩
abbrev main_cst_4 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_c : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_c_5 : Ref sig .tc := ⟨.hbm, 86, rfl⟩
abbrev main_v78 : Ref sig .tc := ⟨.hbm, 87, rfl⟩
abbrev main_v79 : Ref sig .tc := ⟨.hbm, 88, rfl⟩
abbrev main_c_6 : Ref sig .tc := ⟨.hbm, 89, rfl⟩
abbrev main_v80 : Ref sig .tc := ⟨.hbm, 90, rfl⟩
abbrev main_v81 : Ref sig .tc := ⟨.hbm, 91, rfl⟩
abbrev main_call0_v0 : Ref sig .tc := ⟨.hbm, 92, rfl⟩
abbrev main_v82 : Ref sig .tc := ⟨.hbm, 93, rfl⟩
abbrev main_call1_v0 : Ref sig .tc := ⟨.hbm, 94, rfl⟩
abbrev main_v83 : Ref sig .tc := ⟨.hbm, 95, rfl⟩
abbrev main_v84 : Ref sig .tc := ⟨.hbm, 96, rfl⟩
abbrev main_cst_7 : Ref sig .tc := ⟨.hbm, 97, rfl⟩
abbrev main_v85 : Ref sig .tc := ⟨.hbm, 98, rfl⟩
abbrev main_v86 : Ref sig .tc := ⟨.hbm, 99, rfl⟩
abbrev main_cst_8 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v87 : Ref sig .tc := ⟨.hbm, 104, rfl⟩
abbrev main_cst_9 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_cst_10 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_c_11 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_c_12 : Ref sig .tc := ⟨.hbm, 128, rfl⟩
abbrev main_v108 : Ref sig .tc := ⟨.hbm, 129, rfl⟩
abbrev main_v109 : Ref sig .tc := ⟨.hbm, 130, rfl⟩
abbrev main_c_13 : Ref sig .tc := ⟨.hbm, 131, rfl⟩
abbrev main_v110 : Ref sig .tc := ⟨.hbm, 132, rfl⟩
abbrev main_v111 : Ref sig .tc := ⟨.hbm, 133, rfl⟩
abbrev main_call3_v0 : Ref sig .tc := ⟨.hbm, 134, rfl⟩
abbrev main_v112 : Ref sig .tc := ⟨.hbm, 135, rfl⟩
abbrev main_call4_v0 : Ref sig .tc := ⟨.hbm, 136, rfl⟩
abbrev main_v113 : Ref sig .tc := ⟨.hbm, 137, rfl⟩
abbrev main_v114 : Ref sig .tc := ⟨.hbm, 138, rfl⟩
abbrev main_cst_14 : Ref sig .tc := ⟨.hbm, 139, rfl⟩
abbrev main_v115 : Ref sig .tc := ⟨.hbm, 140, rfl⟩
abbrev main_v116 : Ref sig .tc := ⟨.hbm, 141, rfl⟩
abbrev main_cst_15 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_v117 : Ref sig .tc := ⟨.hbm, 146, rfl⟩
abbrev main_cst_16 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_17 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_c_18 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_c_19 : Ref sig .tc := ⟨.hbm, 170, rfl⟩
abbrev main_v138 : Ref sig .tc := ⟨.hbm, 171, rfl⟩
abbrev main_v139 : Ref sig .tc := ⟨.hbm, 172, rfl⟩
abbrev main_c_20 : Ref sig .tc := ⟨.hbm, 173, rfl⟩
abbrev main_v140 : Ref sig .tc := ⟨.hbm, 174, rfl⟩
abbrev main_v141 : Ref sig .tc := ⟨.hbm, 175, rfl⟩
abbrev main_call6_v0 : Ref sig .tc := ⟨.hbm, 176, rfl⟩
abbrev main_v142 : Ref sig .tc := ⟨.hbm, 177, rfl⟩
abbrev main_call7_v0 : Ref sig .tc := ⟨.hbm, 178, rfl⟩
abbrev main_v143 : Ref sig .tc := ⟨.hbm, 179, rfl⟩
abbrev main_v144 : Ref sig .tc := ⟨.hbm, 180, rfl⟩
abbrev main_cst_21 : Ref sig .tc := ⟨.hbm, 181, rfl⟩
abbrev main_v145 : Ref sig .tc := ⟨.hbm, 182, rfl⟩
abbrev main_v146 : Ref sig .tc := ⟨.hbm, 183, rfl⟩
abbrev main_cst_22 : Ref sig .tc := ⟨.hbm, 184, rfl⟩
abbrev main_call8_v0 : Ref sig .tc := ⟨.hbm, 185, rfl⟩
abbrev main_call8_v1 : Ref sig .tc := ⟨.hbm, 186, rfl⟩
abbrev main_call8_v2 : Ref sig .tc := ⟨.hbm, 187, rfl⟩
abbrev main_v147 : Ref sig .tc := ⟨.hbm, 188, rfl⟩
abbrev main_cst_23 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_cst_24 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_cst_25 : Ref sig .tc := ⟨.hbm, 207, rfl⟩
abbrev main_v164 : Ref sig .tc := ⟨.hbm, 208, rfl⟩
abbrev main_cst_26 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_cst_27 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x2560 : Shape := ⟨2, ![1024, 2560]⟩
abbrev S1x1024 : Shape := ⟨2, ![1, 1024]⟩
abbrev S32768x2560 : Shape := ⟨2, ![32768, 2560]⟩
abbrev S256x1024 : Shape := ⟨2, ![256, 1024]⟩
abbrev S256x2560 : Shape := ⟨2, ![256, 2560]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2560, .f32⟩
  | .hbm, ⟨3, _⟩ => ⟨S1024x2560, .bf16⟩
  | .hbm, ⟨4, _⟩ => ⟨S1x1024, .f32⟩
  | .hbm, ⟨5, _⟩ => ⟨S32768x2560, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2560, .bf16⟩
  | .local _ .vmem, ⟨4, _⟩ => ⟨S256x2560, .f32⟩
  | .local _ .vmem, ⟨5, _⟩ => ⟨S256x2560, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S32768x1024 : Shape := ⟨2, ![32768, 1024]⟩
abbrev S1024 : Shape := ⟨1, ![1024]⟩
abbrev S1024x2560 : Shape := ⟨2, ![1024, 2560]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2560 : Shape := ⟨2, ![32768, 2560]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2560, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x2560, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel3.lean ====
abbrev S32768x512 : Shape := ⟨2, ![32768, 512]⟩
abbrev S1024x1024 : Shape := ⟨2, ![1024, 1024]⟩
abbrev S32768x1024 : Shape := ⟨2, ![32768, 1024]⟩
abbrev S512x1024 : Shape := ⟨2, ![512, 1024]⟩
abbrev S256x512 : Shape := ⟨2, ![256, 512]⟩
abbrev S256x1024 : Shape := ⟨2, ![256, 1024]⟩

abbrev nBuf : Space → Nat
  | .hbm => 9
  | .vmem => 10
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S1024x1024, .f32⟩
  | .hbm, ⟨3, _⟩ => ⟨S32768x1024, .f32⟩
  | .hbm, ⟨4, _⟩ => ⟨S512x1024, .f32⟩
  | .hbm, ⟨5, _⟩ => ⟨S512x1024, .bf16⟩
  | .hbm, ⟨6, _⟩ => ⟨S512x1024, .f32⟩
  | .hbm, ⟨7, _⟩ => ⟨S512x1024, .bf16⟩
  | .hbm, ⟨8, _⟩ => ⟨S32768x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S512x1024, .bf16⟩
  | .local _ .vmem, ⟨5, _⟩ => ⟨S512x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32768x512 : Shape := ⟨2, ![32768, 512]⟩
abbrev S1024x1024 : Shape := ⟨2, ![1024, 1024]⟩
abbrev S32768x1024 : Shape := ⟨2, ![32768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S1024x1024, .f32⟩
  | .hbm, ⟨3, _⟩ => ⟨S32768x1024, .f32⟩
  | .hbm, ⟨4, _⟩ => ⟨S32768x1024, .f32⟩
  | .hbm, ⟨5, _⟩ => ⟨S32768x1024, .f32⟩
  | .hbm, ⟨6, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel4.lean ====
abbrev S32768x2560 : Shape := ⟨2, ![32768, 2560]⟩
abbrev S8x64 : Shape := ⟨2, ![8, 64]⟩
abbrev S8x128x128 : Shape := ⟨3, ![8, 128, 128]⟩
abbrev S8x128 : Shape := ⟨2, ![8, 128]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S128x128 : Shape := ⟨2, ![128, 128]⟩
abbrev S128x8 : Shape := ⟨2, ![128, 8]⟩
abbrev S128x8x64 : Shape := ⟨3, ![128, 8, 64]⟩
abbrev S128x512 : Shape := ⟨2, ![128, 512]⟩
abbrev S32768x512 : Shape := ⟨2, ![32768, 512]⟩
abbrev S1x128x128 : Shape := ⟨3, ![1, 128, 128]⟩

abbrev nBuf : Space → Nat
  | .hbm => 48
  | .vmem => 10
  | .smem => 0
  | _ => 0

abbrev bufTy : (tb : Table) → Fin (tcTables nBuf tb) → BufTy
  | .hbm, ⟨0, _⟩ => ⟨S32768x2560, .f32⟩
  | .hbm, ⟨1, _⟩ => ⟨S8x64, .f32⟩
  | .hbm, ⟨2, _⟩ => ⟨S8x128x128, .f32⟩
  | .hbm, ⟨3, _⟩ => ⟨S8x128, .f32⟩
  | .hbm, ⟨4, _⟩ => ⟨S512, .i32⟩
  | .hbm, ⟨5, _⟩ => ⟨S_, .i32⟩
  | .hbm, ⟨6, _⟩ => ⟨S_, .i32⟩
  | .hbm, ⟨7, _⟩ => ⟨S512, .i32⟩
  | .hbm, ⟨8, _⟩ => ⟨S512, .i32⟩
  | .hbm, ⟨9, _⟩ => ⟨S512, .i32⟩
  | .hbm, ⟨10, _⟩ => ⟨S_, .i32⟩
  | .hbm, ⟨11, _⟩ => ⟨S512, .i32⟩
  | .hbm, ⟨12, _⟩ => ⟨S512, .i1⟩
  | .hbm, ⟨13, _⟩ => ⟨S512, .i32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S512, .i1⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S512, .i32⟩
  | .hbm, ⟨23, _⟩ => ⟨S512x1, .i32⟩
  | .hbm, ⟨24, _⟩ => ⟨S1x512, .i32⟩
  | .hbm, ⟨25, _⟩ => ⟨S512x512, .i32⟩
  | .hbm, ⟨26, _⟩ => ⟨S512x512, .i32⟩
  | .hbm, ⟨27, _⟩ => ⟨S512x512, .i1⟩
  | .hbm, ⟨28, _⟩ => ⟨S512x512, .f32⟩
  | .hbm, ⟨29, _⟩ => ⟨S_, .f32⟩
  | .hbm, ⟨30, _⟩ => ⟨S512x512, .f32⟩
  | .hbm, ⟨31, _⟩ => ⟨S512x512, .f32⟩
  | .hbm, ⟨32, _⟩ => ⟨S1x512, .f32⟩
  | .hbm, ⟨33, _⟩ => ⟨S128x128, .i32⟩
  | .hbm, ⟨34, _⟩ => ⟨S_, .i32⟩
  | .hbm, ⟨35, _⟩ => ⟨S128x128, .i32⟩
  | .hbm, ⟨36, _⟩ => ⟨S128x128, .i32⟩
  | .hbm, ⟨37, _⟩ => ⟨S128x128, .i32⟩
  | .hbm, ⟨38, _⟩ => ⟨S128x128, .i1⟩
  | .hbm, ⟨39, _⟩ => ⟨S8x128x128, .i1⟩
  | .hbm, ⟨40, _⟩ => ⟨S_, .f32⟩
  | .hbm, ⟨41, _⟩ => ⟨S8x128x128, .f32⟩
  | .hbm, ⟨42, _⟩ => ⟨S8x128x128, .f32⟩
  | .hbm, ⟨43, _⟩ => ⟨S8x128x128, .bf16⟩
  | .hbm, ⟨44, _⟩ => ⟨S128x8, .f32⟩
  | .hbm, ⟨45, _⟩ => ⟨S128x8x64, .f32⟩
  | .hbm, ⟨46, _⟩ => ⟨S128x512, .f32⟩
  | .hbm, ⟨47, _⟩ => ⟨S32768x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S512x512, .f32⟩
  | .local _ .vmem, ⟨5, _⟩ => ⟨S1x512, .f32⟩
  | .local _ .vmem, ⟨6, _⟩ => ⟨S8x128x128, .bf16⟩
  | .local _ .vmem, ⟨7, _⟩ => ⟨S128x512, .f32⟩
  | .local _ .vmem, ⟨8, _⟩ => ⟨S128x512, .f32⟩
  | .local _ .vmem, ⟨9, _⟩ => ⟨S128x512, .f32⟩
  | _, _ => ⟨S32768x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_cst : Ref sig .tc := ⟨.hbm, 40, rfl⟩
abbrev main_call1_v6 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S32768x2560 : Shape := ⟨2, ![32768, 2560]⟩
abbrev S8x64 : Shape := ⟨2, ![8, 64]⟩
abbrev S8x128x128 : Shape := ⟨3, ![8, 128, 128]⟩
abbrev S8x128 : Shape := ⟨2, ![8, 128]⟩
abbrev S32768x1024 : Shape := ⟨2, ![32768, 1024]⟩
abbrev S_ : Shape := ⟨0, ![]⟩
abbrev S32768x512 : Shape := ⟨2, ![32768, 512]⟩
abbrev S32768x8x64 : Shape := ⟨3, ![32768, 8, 64]⟩
abbrev S32768x8 : Shape := ⟨2, ![32768, 8]⟩
abbrev S32768x8x1 : Shape := ⟨3, ![32768, 8, 1]⟩
abbrev S1x8x64 : Shape := ⟨3, ![1, 8, 64]⟩
abbrev S256x128x8x64 : Shape := ⟨4, ![256, 128, 8, 64]⟩
abbrev S128x128 : Shape := ⟨2, ![128, 128]⟩
abbrev S8x256x64x128 : Shape := ⟨4, ![8, 256, 64, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 71
  | .vmem => 0
  | .smem => 0
  | _ => 0

abbrev bufTy : (tb : Table) → Fin (tcTables nBuf tb) → BufTy
  | .hbm, ⟨0, _⟩ => ⟨S32768x2560, .f32⟩
  | .hbm, ⟨1, _⟩ => ⟨S8x64, .f32⟩
  | .hbm, ⟨2, _⟩ => ⟨S8x128x128, .f32⟩
  | .hbm, ⟨3, _⟩ => ⟨S8x128, .f32⟩
  | .hbm, ⟨4, _⟩ => ⟨S32768x1024, .f32⟩
  | .hbm, ⟨5, _⟩ => ⟨S32768x1024, .f32⟩
  | .hbm, ⟨6, _⟩ => ⟨S32768x1024, .f32⟩
  | .hbm, ⟨7, _⟩ => ⟨S_, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S_, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x512, .f32⟩
  | .hbm, ⟨23, _⟩ => ⟨S32768x512, .f32⟩
  | .hbm, ⟨24, _⟩ => ⟨S32768x8x64, .f32⟩
  | .hbm, ⟨25, _⟩ => ⟨S_, .f32⟩
  | .hbm, ⟨26, _⟩ => ⟨S32768x8, .f32⟩
  | .hbm, ⟨27, _⟩ => ⟨S32768x8x1, .f32⟩
  | .hbm, ⟨28, _⟩ => ⟨S_, .f32⟩
  | .hbm, ⟨29, _⟩ => ⟨S32768x8x1, .f32⟩
  | .hbm, ⟨30, _⟩ => ⟨S32768x8x1, .f32⟩
  | .hbm, ⟨31, _⟩ => ⟨S32768x8x64, .f32⟩
  | .hbm, ⟨32, _⟩ => ⟨S32768x8x64, .f32⟩
  | .hbm, ⟨33, _⟩ => ⟨S32768x8x64, .f32⟩
  | .hbm, ⟨34, _⟩ => ⟨S_, .f32⟩
  | .hbm, ⟨35, _⟩ => ⟨S32768x8, .f32⟩
  | .hbm, ⟨36, _⟩ => ⟨S32768x8x1, .f32⟩
  | .hbm, ⟨37, _⟩ => ⟨S_, .f32⟩
  | .hbm, ⟨38, _⟩ => ⟨S32768x8x1, .f32⟩
  | .hbm, ⟨39, _⟩ => ⟨S32768x8x1, .f32⟩
  | .hbm, ⟨40, _⟩ => ⟨S32768x8x64, .f32⟩
  | .hbm, ⟨41, _⟩ => ⟨S32768x8x64, .f32⟩
  | .hbm, ⟨42, _⟩ => ⟨S_, .f32⟩
  | .hbm, ⟨43, _⟩ => ⟨S32768x8x1, .f32⟩
  | .hbm, ⟨44, _⟩ => ⟨S32768x8x1, .f32⟩
  | .hbm, ⟨45, _⟩ => ⟨S32768x8x1, .f32⟩
  | .hbm, ⟨46, _⟩ => ⟨S32768x8x64, .f32⟩
  | .hbm, ⟨47, _⟩ => ⟨S32768x8x64, .f32⟩
  | .hbm, ⟨48, _⟩ => ⟨S1x8x64, .f32⟩
  | .hbm, ⟨49, _⟩ => ⟨S32768x8x64, .f32⟩
  | .hbm, ⟨50, _⟩ => ⟨S32768x8x64, .f32⟩
  | .hbm, ⟨51, _⟩ => ⟨S256x128x8x64, .f32⟩
  | .hbm, ⟨52, _⟩ => ⟨S128x128, .i32⟩
  | .hbm, ⟨53, _⟩ => ⟨S_, .i32⟩
  | .hbm, ⟨54, _⟩ => ⟨S128x128, .i32⟩
  | .hbm, ⟨55, _⟩ => ⟨S128x128, .i32⟩
  | .hbm, ⟨56, _⟩ => ⟨S128x128, .i32⟩
  | .hbm, ⟨57, _⟩ => ⟨S128x128, .i1⟩
  | .hbm, ⟨58, _⟩ => ⟨S8x128x128, .i1⟩
  | .hbm, ⟨59, _⟩ => ⟨S_, .f32⟩
  | .hbm, ⟨60, _⟩ => ⟨S8x128x128, .f32⟩
  | .hbm, ⟨61, _⟩ => ⟨S8x128x128, .f32⟩
  | .hbm, ⟨62, _⟩ => ⟨S8x256x64x128, .f32⟩
  | .hbm, ⟨63, _⟩ => ⟨S256x128x8x64, .f32⟩
  | .hbm, ⟨64, _⟩ => ⟨S128x8, .f32⟩
  | .hbm, ⟨65, _⟩ => ⟨S128x8x1, .f32⟩
  | .hbm, ⟨66, _⟩ => ⟨S1x128x8x1, .f32⟩
  | .hbm, ⟨67, _⟩ => ⟨S256x128x8x64, .f32⟩
  | .hbm, ⟨68, _⟩ => ⟨S256x128x8x64, .f32⟩
  | .hbm, ⟨69, _⟩ => ⟨S32768x512, .f32⟩
  | .hbm, ⟨70, _⟩ => ⟨S32768x512, .f32⟩
  | _, _ => ⟨S32768x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_cst : Ref sig .tc := ⟨.hbm, 59, rfl⟩
abbrev main_call0_v6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S1024x2048 : Shape := ⟨2, ![1024, 2048]⟩
abbrev S1024x8x2x128 : Shape := ⟨4, ![1024, 8, 2, 128]⟩
abbrev S1024x2x8x128 : Shape := ⟨4, ![1024, 2, 8, 128]⟩
abbrev S1x1024 : Shape := ⟨2, ![1, 1024]⟩
abbrev S32768x2048 : Shape := ⟨2, ![32768, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2048, .f32⟩
  | .hbm, ⟨3, _⟩ => ⟨S1024x8x2x128, .f32⟩
  | .hbm, ⟨4, _⟩ => ⟨S1024x2x8x128, .f32⟩
  | .hbm, ⟨5, _⟩ => ⟨S1024x2048, .f32⟩
  | .hbm, ⟨6, _⟩ => ⟨S1024x2048, .bf16⟩
  | .hbm, ⟨7, _⟩ => ⟨S1x1024, .f32⟩
  | .hbm, ⟨8, _⟩ => ⟨S32768x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x2048, .f32⟩
  | .local _ .vmem, ⟨5, _⟩ => ⟨S256x2048, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S32768x1024 : Shape := ⟨2, ![32768, 1024]⟩
abbrev S1024 : Shape := ⟨1, ![1024]⟩
abbrev S1024x2048 : Shape := ⟨2, ![1024, 2048]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2048 : Shape := ⟨2, ![32768, 2048]⟩
abbrev S32768x8x2x128 : Shape := ⟨4, ![32768, 8, 2, 128]⟩
abbrev S32768x2x8x128 : Shape := ⟨4, ![32768, 2, 8, 128]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2048, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x2048, .f32⟩
  | .hbm, ⟨20, _⟩ => ⟨S32768x8x2x128, .f32⟩
  | .hbm, ⟨21, _⟩ => ⟨S32768x2x8x128, .f32⟩
  | .hbm, ⟨22, _⟩ => ⟨S32768x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Attn.RunA.lean ====
/- The kernel body at the first point of a run of eight (same batch and head pair): it fills the five scratch
   buffers and computes its query block. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point whose query block is the first: on whole staging buffers holding the input blocks it ends with
    the inputs unchanged, its output block stored, and every scratch buffer stored whole; the pieces are found by the run. -/
noncomputable def bodyA (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x256x512 .bf16) (harg8 : arg8.IsWhole) (arg9 : Memref sig .tc .vmem S1x256x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (hc0 : cond0_0 i)
    (x0 : Vec F S1x2048x128 .f32) (x1 : Vec F S1x2048x128 .f32) (x2 : Vec F S1x2048x128 .f32) (x3 : Vec F S2048x128 .f32) (x4 : Vec F S2048x128 .f32) (x5 : Vec F S8x256x512 .bf16) :
    Σ' (L6 : List (View.Piece (Elt F) S1x256x128 .f32)), Σ' (LS0 : List (View.Piece (Elt F) S2048x128 .bf16)), Σ' (LS1 : List (View.Piece (Elt F) S2048x128 .bf16)), Σ' (LS2 : List (View.Piece (Elt F) S2048x128 .bf16)), Σ' (LS3 : List (View.Piece (Elt F) S2048x128 .bf16)), { LS4 : List (View.Piece (Elt F) S2048x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4)) -∗ K ⟨⟩))
          ⊢ wp frame (wpE (defs₀ (F := F)) Variants.none c none) E (cc0_dilated_attention i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_dilated_attention_eq_skeleton]; unfold cc0_dilated_attention_skel
    simp only [k0_part4_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    isplitl [HS2]; · iexists _; iexact HS2
    isplitl [HS3]; · iexists _; iexact HS3
    iexists _; iexact HS4

end Cert.KernelIdeal.Attn

end
-- ==== Proof.Attn.RunB.lean ====
/- The kernel body at the other points of a run of eight: it reads the scratch buffers that the first point filled. -/
module

public import proofs.«01_k».proof.Proof.Attn.RunA

@[expose] public section

-- membership in a rectangle of production extents (`View.cover_of_tiled`): the elaborator's structural look
-- recurses once per coordinate of the long axes
set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- The body at a point whose query block is not the first: on whole staging buffers holding the input blocks and scratch
    buffers at known contents it ends with all of these unchanged and its output block stored; the pieces are found by the run. -/
noncomputable def bodyB (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x256x512 .bf16) (harg8 : arg8.IsWhole) (arg9 : Memref sig .tc .vmem S1x256x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (hc0 : ¬cond0_0 i)
    (x0 : Vec F S1x2048x128 .f32) (x1 : Vec F S1x2048x128 .f32) (x2 : Vec F S1x2048x128 .f32) (x3 : Vec F S2048x128 .f32) (x4 : Vec F S2048x128 .f32) (x5 : Vec F S8x256x512 .bf16) (xs0 : Vec F S2048x128 .bf16) (xs1 : Vec F S2048x128 .bf16) (xs2 : Vec F S2048x128 .bf16) (xs3 : Vec F S2048x128 .bf16) (xs4 : Vec F S2048x128 .bf16) :
    { L6 : List (View.Piece (Elt F) S1x256x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3 ∗ owns (c : Thread nD τ) arg14 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xs0 ∗ owns (c : Thread nD τ) arg11 fullShare xs1 ∗ owns (c : Thread nD τ) arg12 fullShare xs2 ∗ owns (c : Thread nD τ) arg13 fullShare xs3 ∗ owns (c : Thread nD τ) arg14 fullShare xs4) -∗ K ⟨⟩))
          ⊢ wp frame (wpE (defs₀ (F := F)) Variants.none c none) E (cc0_dilated_attention i arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_dilated_attention_eq_skeleton]; unfold cc0_dilated_attention_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0; obtain rfl := harg11.eq_unread hfs1; obtain rfl := harg12.eq_unread hfs2; obtain rfl := harg13.eq_unread hfs3; obtain rfl := harg14.eq_unread hfs4
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]
    · iexists _; isplitr; · ipureintro; exact harg10.read_unread _
      iexact HS0
    isplitl [HS1]
    · iexists _; isplitr; · ipureintro; exact harg11.read_unread _
      iexact HS1
    isplitl [HS2]
    · iexists _; isplitr; · ipureintro; exact harg12.read_unread _
      iexact HS2
    isplitl [HS3]
    · iexists _; isplitr; · ipureintro; exact harg13.read_unread _
      iexact HS3
    iexists _; isplitr; · ipureintro; exact harg14.read_unread _
    iexact HS4

end Cert.KernelIdeal.Attn

end
-- ==== Proof.Attn.Frame.lean ====
/- The run of the attention's grid: the scratch buffers hold, between the points of a run of eight, what the run's first
   point stored in them; every point stores its own output block. -/
module

public import proofs.«01_k».proof.Proof.Attn.RunB
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the run of eight points that `t` belongs to. -/
def base (t : Fin cfg0.N) : Fin cfg0.N := ⟨t.val / 8 * 8, lt_of_le_of_lt (Nat.div_mul_le_self _ _) t.isLt⟩

theorem base_mod (t : Fin cfg0.N) : (base t).val % 8 = 0 := Nat.mul_mod_left _ _

theorem base_of_first (t : Fin cfg0.N) (h : t.val % 8 = 0) : base t = t :=
  Fin.ext (by show t.val / 8 * 8 = t.val; omega)

theorem base_pred (t : Fin cfg0.N) (h : ¬ t.val % 8 = 0) (h' : t.val - 1 < cfg0.N) : base ⟨t.val - 1, h'⟩ = base t :=
  Fin.ext (by show (t.val - 1) / 8 * 8 = t.val / 8 * 8; omega)

theorem first_of (t : Fin cfg0.N) (h : t.val % 8 = 0) : cond0_0 (grid0.coords t) := (hcond0_0 t).mpr h
theorem not_first_of (t : Fin cfg0.N) (h : ¬ t.val % 8 = 0) : ¬ cond0_0 (grid0.coords t) := fun h' => h ((hcond0_0 t).mp h')

/-- The body's run at a first point, on the point's own staging buffers and input blocks. -/
abbrev atFirst (c : Dev nD) (t : Fin cfg0.N) (h : t.val % 8 = 0) :=
  bodyA (F := F) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) scM0_1 (Memref.isWhole_whole _)
    scM0_2 (Memref.isWhole_whole _) scM0_3 (Memref.isWhole_whole _) scM0_4 (Memref.isWhole_whole _) (first_of t h)
    (iblk m c 0 t) (iblk m c 1 t) (iblk m c 2 t) (iblk m c 3 t) (iblk m c 4 t) (iblk m c 5 t)

/-- The body's run at any other point, over scratch contents `s0 … s4`. -/
abbrev atOther (c : Dev nD) (t : Fin cfg0.N) (h : ¬ t.val % 8 = 0) (s0 s1 s2 s3 s4 : Vec F S2048x128 .bf16) :=
  bodyB (F := F) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) scM0_1 (Memref.isWhole_whole _)
    scM0_2 (Memref.isWhole_whole _) scM0_3 (Memref.isWhole_whole _) scM0_4 (Memref.isWhole_whole _) (not_first_of t h)
    (iblk m c 0 t) (iblk m c 1 t) (iblk m c 2 t) (iblk m c 3 t) (iblk m c 4 t) (iblk m c 5 t) s0 s1 s2 s3 s4

/-- What the scratch buffers hold after point `t`: what the first point of its run stored. -/
def scr0 (c : Dev nD) (t : Fin cfg0.N) : Vec F S2048x128 .bf16 := View.canon (atFirst m c (base t) (base_mod t)).2.1
def scr1 (c : Dev nD) (t : Fin cfg0.N) : Vec F S2048x128 .bf16 := View.canon (atFirst m c (base t) (base_mod t)).2.2.1
def scr2 (c : Dev nD) (t : Fin cfg0.N) : Vec F S2048x128 .bf16 := View.canon (atFirst m c (base t) (base_mod t)).2.2.2.1
def scr3 (c : Dev nD) (t : Fin cfg0.N) : Vec F S2048x128 .bf16 := View.canon (atFirst m c (base t) (base_mod t)).2.2.2.2.1
def scr4 (c : Dev nD) (t : Fin cfg0.N) : Vec F S2048x128 .bf16 := View.canon (atFirst m c (base t) (base_mod t)).2.2.2.2.2.1

/-- The output block after point `t`. -/
def outBlk (c : Dev nD) (t : Fin cfg0.N) : Vec F S1x256x128 .f32 :=
  if h : t.val % 8 = 0 then View.canon (atFirst m c t h).1
  else View.canon (atOther m c t h (scr0 m c t) (scr1 m c t) (scr2 m c t) (scr3 m c t) (scr4 m c t)).1

theorem outBlk_first (c : Dev nD) (t : Fin cfg0.N) (h : t.val % 8 = 0) : outBlk m c t = View.canon (atFirst m c t h).1 := dif_pos h
theorem outBlk_other (c : Dev nD) (t : Fin cfg0.N) (h : ¬ t.val % 8 = 0) :
    outBlk m c t = View.canon (atOther m c t h (scr0 m c t) (scr1 m c t) (scr2 m c t) (scr3 m c t) (scr4 m c t)).1 := dif_neg h

/-- A quantity of first points does not depend on the way the point is written. -/
theorem first_congr {α : Sort _} (f : (t : Fin cfg0.N) → t.val % 8 = 0 → α) (a b : Fin cfg0.N) (e : a = b)
    (ha : a.val % 8 = 0) (hb : b.val % 8 = 0) : f a ha = f b hb := by
  subst e; rfl

theorem scr0_first (c : Dev nD) (t : Fin cfg0.N) (h : t.val % 8 = 0) : scr0 m c t = View.canon (atFirst m c t h).2.1 :=
  first_congr (fun t h => View.canon (atFirst m c t h).2.1) _ _ (base_of_first t h) _ _
theorem scr1_first (c : Dev nD) (t : Fin cfg0.N) (h : t.val % 8 = 0) : scr1 m c t = View.canon (atFirst m c t h).2.2.1 :=
  first_congr (fun t h => View.canon (atFirst m c t h).2.2.1) _ _ (base_of_first t h) _ _
theorem scr2_first (c : Dev nD) (t : Fin cfg0.N) (h : t.val % 8 = 0) : scr2 m c t = View.canon (atFirst m c t h).2.2.2.1 :=
  first_congr (fun t h => View.canon (atFirst m c t h).2.2.2.1) _ _ (base_of_first t h) _ _
theorem scr3_first (c : Dev nD) (t : Fin cfg0.N) (h : t.val % 8 = 0) : scr3 m c t = View.canon (atFirst m c t h).2.2.2.2.1 :=
  first_congr (fun t h => View.canon (atFirst m c t h).2.2.2.2.1) _ _ (base_of_first t h) _ _
theorem scr4_first (c : Dev nD) (t : Fin cfg0.N) (h : t.val % 8 = 0) : scr4 m c t = View.canon (atFirst m c t h).2.2.2.2.2.1 :=
  first_congr (fun t h => View.canon (atFirst m c t h).2.2.2.2.2.1) _ _ (base_of_first t h) _ _

/-- The stores of a point cover the buffers they are read back from. -/
theorem coverA_6 (c : Dev nD) (t : Fin cfg0.N) (h) (y : S1x256x128.Idx) : ∃ pc ∈ (atFirst m c t h).1, y ∈ pc.1.set :=
  View.cover_of_tiledL _ S1x256x128.size (by sl_kernel_rfl) y
theorem coverA_0 (c : Dev nD) (t : Fin cfg0.N) (h) (y : S2048x128.Idx) : ∃ pc ∈ (atFirst m c t h).2.1, y ∈ pc.1.set :=
  View.cover_of_tiledL _ S2048x128.size (by sl_kernel_rfl) y
theorem coverA_1 (c : Dev nD) (t : Fin cfg0.N) (h) (y : S2048x128.Idx) : ∃ pc ∈ (atFirst m c t h).2.2.1, y ∈ pc.1.set :=
  View.cover_of_tiledL _ S2048x128.size (by sl_kernel_rfl) y
theorem coverA_2 (c : Dev nD) (t : Fin cfg0.N) (h) (y : S2048x128.Idx) : ∃ pc ∈ (atFirst m c t h).2.2.2.1, y ∈ pc.1.set :=
  View.cover_of_tiledL _ S2048x128.size (by sl_kernel_rfl) y
theorem coverA_3 (c : Dev nD) (t : Fin cfg0.N) (h) (y : S2048x128.Idx) : ∃ pc ∈ (atFirst m c t h).2.2.2.2.1, y ∈ pc.1.set :=
  View.cover_of_tiledL _ S2048x128.size (by sl_kernel_rfl) y
theorem coverA_4 (c : Dev nD) (t : Fin cfg0.N) (h) (y : S2048x128.Idx) : ∃ pc ∈ (atFirst m c t h).2.2.2.2.2.1, y ∈ pc.1.set :=
  View.cover_of_tiledL _ S2048x128.size (by sl_kernel_rfl) y
theorem coverB_6 (c : Dev nD) (t : Fin cfg0.N) (h) (s0 s1 s2 s3 s4) (y : S1x256x128.Idx) :
    ∃ pc ∈ (atOther m c t h s0 s1 s2 s3 s4).1, y ∈ pc.1.set :=
  View.cover_of_tiledL _ S1x256x128.size (by sl_kernel_rfl) y

/-- A whole buffer written by covering pieces reads as their canonical contents. -/
theorem read_of_cover {s : Shape} {e : EltTy} (M : Memref sig .tc .vmem s e) (f) (L : List (View.Piece (Elt F) s e))
    (h : ∀ y, ∃ pc ∈ L, y ∈ pc.1.set) : M.view.read (Elt F) (M.view.writes (Elt F) f L) = View.canon L :=
  (View.read_writes_of_cover _ _ _ _ L h).trans (View.read_writes_junk_eq_canon M.view L)

/-! ## The proof data -/

/-- The scratch buffers at what point `n` left in them, and the generator register. -/
def held (c : Dev nD) (t : Fin cfg0.N) : sProp 𝕄 :=
  iprop(iprop(owns (c : Thread nD τ) scM0_0 fullShare (scr0 m c t) ∗ owns (c : Thread nD τ) scM0_1 fullShare (scr1 m c t)
    ∗ owns (c : Thread nD τ) scM0_2 fullShare (scr2 m c t) ∗ owns (c : Thread nD τ) scM0_3 fullShare (scr3 m c t)
    ∗ owns (c : Thread nD τ) scM0_4 fullShare (scr4 m c t)) ∗ (∃ r, prngReg c r))

/-- The invariant before position `n`: at the start any scratch contents, later the contents the point before left. -/
def Inv (c : Dev nD) : (n : ℕ) → n ≤ cfg0.N → sProp 𝕄
  | 0, _ => Pipeline.ΦA spec0 c
  | n + 1, hn => held m c ⟨n, hn⟩

theorem Inv_zero (c : Dev nD) (n : ℕ) (h : n ≤ cfg0.N) (hz : n = 0) : Inv m c n h = Pipeline.ΦA spec0 c := by
  subst hz; rfl

theorem Inv_pos (c : Dev nD) (n : ℕ) (h : n ≤ cfg0.N) (hz : n ≠ 0) : Inv m c n h = held m c ⟨n - 1, by omega⟩ := by
  cases n with
  | zero => exact absurd rfl hz
  | succ n => rfl

/-- The scratch does not change between the points of one run of eight. -/
theorem held_pred (c : Dev nD) (t : Fin cfg0.N) (h : ¬ t.val % 8 = 0) (h' : t.val - 1 < cfg0.N) :
    held m c ⟨t.val - 1, h'⟩ = held m c t := by
  have e := base_pred t h h'
  have e0 : scr0 m c ⟨t.val - 1, h'⟩ = scr0 m c t :=
    first_congr (fun t h => View.canon (atFirst m c t h).2.1) _ _ e _ _
  have e1 : scr1 m c ⟨t.val - 1, h'⟩ = scr1 m c t :=
    first_congr (fun t h => View.canon (atFirst m c t h).2.2.1) _ _ e _ _
  have e2 : scr2 m c ⟨t.val - 1, h'⟩ = scr2 m c t :=
    first_congr (fun t h => View.canon (atFirst m c t h).2.2.2.1) _ _ e _ _
  have e3 : scr3 m c ⟨t.val - 1, h'⟩ = scr3 m c t :=
    first_congr (fun t h => View.canon (atFirst m c t h).2.2.2.2.1) _ _ e _ _
  have e4 : scr4 m c ⟨t.val - 1, h'⟩ = scr4 m c t :=
    first_congr (fun t h => View.canon (atFirst m c t h).2.2.2.2.2.1) _ _ e _ _
  unfold held
  rw [e0, e1, e2, e3, e4]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outBlk m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- Before any point the invariant gives the scratch buffers at some contents. -/
theorem Inv_any (c : Dev nD) (n : ℕ) (h : n ≤ cfg0.N) : Inv m c n h ⊢ Pipeline.ΦA spec0 c := by
  by_cases hz : n = 0
  · rw [Inv_zero m c n h hz]
  · rw [Inv_pos m c n h hz, PhiA0_eq]; unfold held
    iintro ⟨⟨HS0, HS1, HS2, HS3, HS4⟩, Hg⟩
    isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    iexact Hg

set_option maxHeartbeats 4000000 in
/-- The body at a first point, over any scratch contents: it leaves the point's scratch contents and output block. -/
theorem sound_first (c : Dev nD) (t : Fin cfg0.N) (h0 : t.val % 8 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6]
  rw [show (dats m 0 c).Φ t.succ = held m c t from rfl, Inv_castSucc m c t, outBlk_first m c t h0]
  refine (BIBase.Entails.trans (sep_mono_l (Inv_any m c _ _)) ?_)
  show (iprop(Pipeline.ΦA spec0 c ∗ _) : sProp 𝕄) ⊢ _
  rw [PhiA0_eq]; unfold held
  rw [scr0_first m c t h0, scr1_first m c t h0, scr2_first m c t h0, scr3_first m c t h0, scr4_first m c t h0]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((atFirst m c t h0).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, H6⟩, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact read_of_cover _ _ _ (coverA_0 m c t h0)
      isplitl [HS1]
      · unfold owns; iexists _; isplitr
        swap; · iexact HS1
        ipureintro; exact read_of_cover _ _ _ (coverA_1 m c t h0)
      isplitl [HS2]
      · unfold owns; iexists _; isplitr
        swap; · iexact HS2
        ipureintro; exact read_of_cover _ _ _ (coverA_2 m c t h0)
      isplitl [HS3]
      · unfold owns; iexists _; isplitr
        swap; · iexact HS3
        ipureintro; exact read_of_cover _ _ _ (coverA_3 m c t h0)
      unfold owns; iexists _; isplitr
      swap; · iexact HS4
      ipureintro; exact read_of_cover _ _ _ (coverA_4 m c t h0)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact read_of_cover _ _ _ (coverA_6 m c t h0)

set_option maxHeartbeats 4000000 in
/-- The body at any other point: the scratch is read and kept, the output block stored. -/
theorem sound_other (c : Dev nD) (t : Fin cfg0.N) (h0 : ¬ t.val % 8 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6]
  rw [show (dats m 0 c).Φ t.succ = held m c t from rfl, Inv_castSucc m c t, outBlk_other m c t h0,
    Inv_pos m c t.val _ (by omega), held_pred m c t h0]
  unfold held
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((atOther m c t h0 (scr0 m c t) (scr1 m c t) (scr2 m c t) (scr3 m c t) (scr4 m c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, H6⟩, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact read_of_cover _ _ _ (coverB_6 m c t h0 _ _ _ _ _)

theorem sound_body (c : Dev nD) (t : Fin cfg0.N) :
    bodyPre m c t ⊢ wp frame (wpE (defs₀ (F := F)) Variants.none c none) Set.univ (bodyAt0 t) (fun _ => bodyPost m c t) :=
  if h0 : t.val % 8 = 0 then sound_first m c t h0 else sound_other m c t h0

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl, Inv_zero m c 0 _ rfl]

theorem hout (c : Dev nD) : (dats m 0 c).Φ (Fin.last cfg0.N) ⊢ Pipeline.ΦA spec0 c := by
  rw [show (dats m 0 c).Φ (Fin.last cfg0.N) = Inv m c cfg0.N (Nat.le_refl _) from rfl]
  exact Inv_any m c _ _

/-! ## The run -/

set_option backward.isDefEq.respectTransparency.types false in
/-- Every execution terminates with the arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The kernel runs, leaves its argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

/-- The output array after the run is what the blocks written back make of it, the argument unchanged. -/
theorem run_array : θ_run defs (onTc (τ := τ) (main (F := F))) ⟨m, fun _ => 0, ρ⟩ (fun r => ∀ c : Dev nD,
      r.2.mem ((c.tc : Thread nD τ).loc main_v70) = (dats m 0 c).arrAt 6 cfg0.N
      ∧ r.2.mem ((c.tc : Thread nD τ).loc main_arg0) = m ((c.tc : Thread nD τ).loc main_arg0)) :=
  (θ_run defs _ _).mono (fun _ h c => ⟨(h c).1 6, ((h c).1 2).trans (((dats m 0 c).arrAt_in 2 rfl _).trans ((A_eq m c 2).trans (V_main_arg0 m c)))⟩)
    (run_main m ρ)

end Cert.KernelIdeal.Attn

end
-- ==== Proof.Attn.Trip.lean ====
/- One trip of the attention's loop over key blocks, and the body's stored values, as functions of what the buffers hold. -/
module

public import proofs.«01_k».proof.Proof.Attn.Frame
public import Idealize.ShloMosaic.Lib.Pipeline.ValueKit

@[expose] public section

set_option maxRecDepth 16384

noncomputable section

namespace Cert.KernelIdeal.Attn

open Cert.KernelIdeal.Gen
open Idealize.ShloMosaic Idealize.ShloMosaic.TcCoe Idealize.ShloMosaic.Tactic

variable {F : FTy → Type} [FloatOps F]

/-- What a trip carries: per head of the pair the running maximum and the running sums. -/
abbrev Carry (F : FTy → Type) [FloatOps F] := FVec F S256x1 .f32 × FVec F S256x128 .f32 × FVec F S256x1 .f32 × FVec F S256x128 .f32

/-- The key rows of trip `k`. -/
def rowsAt (i : grid0.Coords) (k : Fin (k0_t1_loop i).trips) (K : Vec F S2048x128 .bf16) : Vec F S512x128 .bf16 :=
  View.ld K (Rect.unit (k0_off2 i k) S512x128.size (k0_off2_inb i k))

/-- The table of multiplicities of trip `k`. -/
def multAt (i : grid0.Coords) (k : Fin (k0_t1_loop i).trips) (W : Vec F S8x256x512 .bf16) : Vec F S1x256x512 .bf16 :=
  View.ld W (Rect.unit (k0_off3 i k) S1x256x512.size (k0_off3_inb i k))

/-- The query rows of the point. -/
def queryAt (i : grid0.Coords) (Q : Vec F S2048x128 .bf16) : Vec F S256x128 .bf16 :=
  View.ld Q (Rect.unit (k0_off1 i) S256x128.size (k0_off1_inb i))

/-- One trip. -/
def step (i : grid0.Coords) (q0 q1 : Vec F S256x128 .bf16) (W : Vec F S8x256x512 .bf16) (K V0 V1 : Vec F S2048x128 .bf16)
    (k : Fin (k0_t1_loop i).trips) (a : Carry F) : Carry F :=
  (k0_pay14 q0 a.1 (rowsAt i k K) (multAt i k W), k0_pay15 q0 a.1 a.2.1 (rowsAt i k K) (multAt i k W) (rowsAt i k V0),
   k0_pay17 q1 a.2.2.1 (rowsAt i k K) (multAt i k W),
   k0_pay1 (k0_pay18 q1 a.2.2.1 (rowsAt i k K) (multAt i k W)) (k0_pay19 q1 a.2.2.1 a.2.2.2 (rowsAt i k K) (multAt i k W)) (rowsAt i k V1))

/-- The carried value before trip `n`. -/
def carry (i : grid0.Coords) (q0 q1 : Vec F S256x128 .bf16) (W : Vec F S8x256x512 .bf16) (K V0 V1 : Vec F S2048x128 .bf16) :
    ℕ → Carry F
  | 0 => (k0_pay34, k0_pay35, k0_pay34, k0_pay35)
  | n + 1 => if h : n < (k0_t1_loop i).trips then step i q0 q1 W K V0 V1 ⟨n, h⟩ (carry i q0 q1 W K V0 V1 n)
    else carry i q0 q1 W K V0 V1 n

/-- The block the point stores. -/
def block (i : grid0.Coords) (Q0 Q1 : Vec F S2048x128 .bf16) (W : Vec F S8x256x512 .bf16) (K V0 V1 : Vec F S2048x128 .bf16) :
    Vec F S1x256x128 .f32 :=
  k0_pay3 k0_pay33 (carry i (queryAt i Q0) (queryAt i Q1) W K V0 V1 (k0_t1_loop i).trips).2.1
    (carry i (queryAt i Q0) (queryAt i Q1) W K V0 V1 (k0_t1_loop i).trips).2.2.2

theorem tripR_eq (𝒱 : Variants) (c : Dev nD) (bd : Option 𝒱.V) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x256x512 .bf16) (harg8 : arg8.IsWhole) (arg9 : Memref sig .tc .vmem S1x256x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole)
    (arg2 : BitVec 32) (v6 : Vec F S256x128 .bf16) (v8 : Vec F S256x128 .bf16) (c0_i32_9 : BitVec 32) (c1_i32_11 : BitVec 32)
    (W : Vec F S8x256x512 .bf16) (K V0 V1 : Vec F S2048x128 .bf16) (k : Fin (k0_t1_loop i).trips) (a : Carry F) :
    tripR_k0_t1 (F := F) 𝒱 c bd i arg3 harg3 arg4 harg4 arg5 harg5 arg6 harg6 arg7 harg7 arg8 harg8 arg9 harg9 arg10 harg10 arg11 harg11 arg12 harg12 arg13 harg13 arg14 harg14 arg2 v6 v8 c0_i32_9 c1_i32_11 (harg8.unread W) (harg12.unread K) (harg13.unread V0) (harg14.unread V1) k a
      = step i v6 v8 W K V0 V1 k a := by
  unfold tripR_k0_t1 trip_k0_t1
  dsimp only
  sl_unfold_words
  simp only [View.readAt_eq_ld, Memref.IsWhole.read_unread]
  rfl

theorem state_eq (𝒱 : Variants) (c : Dev nD) (bd : Option 𝒱.V) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x256x512 .bf16) (harg8 : arg8.IsWhole) (arg9 : Memref sig .tc .vmem S1x256x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole)
    (arg2 : BitVec 32) (v6 : Vec F S256x128 .bf16) (v8 : Vec F S256x128 .bf16) (c0_i32_9 : BitVec 32) (c1_i32_11 : BitVec 32)
    (W : Vec F S8x256x512 .bf16) (K V0 V1 : Vec F S2048x128 .bf16) (n : ℕ) :
    st_k0_t1 (F := F) 𝒱 c bd i arg3 harg3 arg4 harg4 arg5 harg5 arg6 harg6 arg7 harg7 arg8 harg8 arg9 harg9 arg10 harg10 arg11 harg11 arg12 harg12 arg13 harg13 arg14 harg14 arg2 v6 v8 c0_i32_9 c1_i32_11 (harg8.unread W) (harg12.unread K) (harg13.unread V0) (harg14.unread V1)
        (k0_pay34, k0_pay35, k0_pay34, k0_pay35) n
      = carry i v6 v8 W K V0 V1 n := by
  induction n with
  | zero => rfl
  | succ n ih =>
    rw [st_k0_t1.eq_2]; unfold st_k0_t1Step; rw [carry]
    by_cases h : n < (k0_t1_loop i).trips
    · rw [dif_pos h, dif_pos h, ih]; exact tripR_eq ..
    · rw [dif_neg h, dif_neg h, ih]

theorem trips2 (i : grid0.Coords) : (k0_t2_loop i).trips = 0 := Nat.le_zero.mp (k0_t2_abs i).2.1

/-- The second loop has no trip: it leaves what it is given. -/
theorem tail_eq (𝒱 : Variants) (c : Dev nD) (bd : Option 𝒱.V) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x256x512 .bf16) (harg8 : arg8.IsWhole) (arg9 : Memref sig .tc .vmem S1x256x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole)
    (arg2 : BitVec 32) (q0 q1 : Vec F S256x128 .bf16) (v36 : BitVec 32) (X8 : BufTy.Contents (Elt F) arg8.view.ty)
    (X12 : BufTy.Contents (Elt F) arg12.view.ty) (X13 : BufTy.Contents (Elt F) arg13.view.ty) (X14 : BufTy.Contents (Elt F) arg14.view.ty)
    (a : Carry F) (n : ℕ) (h : n = (k0_t2_loop i).trips) :
    st_k0_t2 (F := F) 𝒱 c bd i arg3 harg3 arg4 harg4 arg5 harg5 arg6 harg6 arg7 harg7 arg8 harg8 arg9 harg9 arg10 harg10 arg11 harg11 arg12 harg12 arg13 harg13 arg14 harg14 arg2 q0 q1 v36 X8 X12 X13 X14 a n = a := by
  subst h; rw [trips2]; rfl

end Cert.KernelIdeal.Attn

end
-- ==== Proof.Attn.Stored.lean ====
/- What the body stores at a point: the rotated queries and keys and the values beside ones at a first point, the
   output block at every point. -/
module

public import proofs.«01_k».proof.Proof.Attn.Trip

@[expose] public section

set_option maxRecDepth 16384

noncomputable section

namespace Cert.KernelIdeal.Attn

open Cert.KernelIdeal.Gen
open Idealize.ShloMosaic Idealize.ShloMosaic.TcCoe Idealize.ShloMosaic.Tactic

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

/-- A whole buffer written by pieces with canonical contents `w` holds `w`. -/
theorem wholeWrite {s : Shape} {e : EltTy} {M : Memref sig .tc .vmem s e} (h : M.IsWhole) (w : s.Idx → Elt F e)
    (L : List (View.Piece (Elt F) s e)) (hL : View.canon L = w) : M.view.writes (Elt F) M.view.junk L = h.unread w :=
  h.eq_unread ((View.read_writes_junk_eq_canon M.view L).trans hL)

set_option maxHeartbeats 2000000 in
/-- At a later point the stored block is `block` of the scratch contents. -/
theorem storedB (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x256x512 .bf16) (harg8 : arg8.IsWhole) (arg9 : Memref sig .tc .vmem S1x256x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (hc : ¬ cond0_0 i)
    (x0 x1 x2 : Vec F S1x2048x128 .f32) (x3 x4 : Vec F S2048x128 .f32) (x5 : Vec F S8x256x512 .bf16) (s0 s1 s2 s3 s4 : Vec F S2048x128 .bf16) :
    View.canon (bodyB c i arg3 harg3 arg4 harg4 arg5 harg5 arg6 harg6 arg7 harg7 arg8 harg8 arg9 harg9 arg10 harg10 arg11 harg11 arg12 harg12 arg13 harg13 arg14 harg14 hc x0 x1 x2 x3 x4 x5 s0 s1 s2 s3 s4).1 = block i s0 s1 x5 s2 s3 s4 := by
  unfold bodyB
  dsimp only
  rw [View.canon_unit_zero off3]
  unfold bodyB.sl.r bodyB.sl.r_1
  simp only [View.readAt_eq_ld, Memref.IsWhole.read_unread]
  rw [tail_eq (h := rfl), state_eq]
  rfl

set_option maxHeartbeats 2000000 in
theorem storedA_0 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x256x512 .bf16) (harg8 : arg8.IsWhole) (arg9 : Memref sig .tc .vmem S1x256x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (hc : cond0_0 i)
    (x0 x1 x2 : Vec F S1x2048x128 .f32) (x3 x4 : Vec F S2048x128 .f32) (x5 : Vec F S8x256x512 .bf16) :
    View.canon (bodyA c i arg3 harg3 arg4 harg4 arg5 harg5 arg6 harg6 arg7 harg7 arg8 harg8 arg9 harg9 arg10 harg10 arg11 harg11 arg12 harg12 arg13 harg13 arg14 harg14 hc x0 x1 x2 x3 x4 x5).2.1 = k0_pay9 x3 x4 x0 := by
  unfold bodyA
  dsimp only
  sl_unfold_words
  rw [View.canon_unit_zero off2]
  simp only [View.readAt_eq_ld, Memref.IsWhole.read_unread, View.ld_unit_zero (S := S2048x128) off2, View.ld_unit_zero (S := S1x2048x128) off3]

set_option maxHeartbeats 2000000 in
theorem storedA_1 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x256x512 .bf16) (harg8 : arg8.IsWhole) (arg9 : Memref sig .tc .vmem S1x256x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (hc : cond0_0 i)
    (x0 x1 x2 : Vec F S1x2048x128 .f32) (x3 x4 : Vec F S2048x128 .f32) (x5 : Vec F S8x256x512 .bf16) :
    View.canon (bodyA c i arg3 harg3 arg4 harg4 arg5 harg5 arg6 harg6 arg7 harg7 arg8 harg8 arg9 harg9 arg10 harg10 arg11 harg11 arg12 harg12 arg13 harg13 arg14 harg14 hc x0 x1 x2 x3 x4 x5).2.2.1 = k0_pay10 x3 x4 x0 := by
  unfold bodyA
  dsimp only
  sl_unfold_words
  rw [View.canon_unit_zero off2]
  simp only [View.readAt_eq_ld, Memref.IsWhole.read_unread, View.ld_unit_zero (S := S2048x128) off2, View.ld_unit_zero (S := S1x2048x128) off3]

set_option maxHeartbeats 2000000 in
theorem storedA_2 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x256x512 .bf16) (harg8 : arg8.IsWhole) (arg9 : Memref sig .tc .vmem S1x256x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (hc : cond0_0 i)
    (x0 x1 x2 : Vec F S1x2048x128 .f32) (x3 x4 : Vec F S2048x128 .f32) (x5 : Vec F S8x256x512 .bf16) :
    View.canon (bodyA c i arg3 harg3 arg4 harg4 arg5 harg5 arg6 harg6 arg7 harg7 arg8 harg8 arg9 harg9 arg10 harg10 arg11 harg11 arg12 harg12 arg13 harg13 arg14 harg14 hc x0 x1 x2 x3 x4 x5).2.2.2.1 = k0_pay29 k0_pay4 (k0_pay5 x3) (k0_pay6 x4) x1 := by
  unfold bodyA
  dsimp only
  sl_unfold_words
  rw [View.canon_unit_zero off2]
  simp only [View.readAt_eq_ld, Memref.IsWhole.read_unread, View.ld_unit_zero (S := S2048x128) off2, View.ld_unit_zero (S := S1x2048x128) off3]

set_option maxHeartbeats 2000000 in
theorem storedA_3 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x256x512 .bf16) (harg8 : arg8.IsWhole) (arg9 : Memref sig .tc .vmem S1x256x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (hc : cond0_0 i)
    (x0 x1 x2 : Vec F S1x2048x128 .f32) (x3 x4 : Vec F S2048x128 .f32) (x5 : Vec F S8x256x512 .bf16) :
    View.canon (bodyA c i arg3 harg3 arg4 harg4 arg5 harg5 arg6 harg6 arg7 harg7 arg8 harg8 arg9 harg9 arg10 harg10 arg11 harg11 arg12 harg12 arg13 harg13 arg14 harg14 hc x0 x1 x2 x3 x4 x5).2.2.2.2.1 = k0_pay31 k0_pay7 x2 := by
  unfold bodyA
  dsimp only
  sl_unfold_words
  rw [View.canon_unit_zero off2]
  simp only [View.readAt_eq_ld, Memref.IsWhole.read_unread, View.ld_unit_zero (S := S2048x128) off2, View.ld_unit_zero (S := S1x2048x128) off3]

set_option maxHeartbeats 2000000 in
theorem storedA_4 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x256x512 .bf16) (harg8 : arg8.IsWhole) (arg9 : Memref sig .tc .vmem S1x256x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (hc : cond0_0 i)
    (x0 x1 x2 : Vec F S1x2048x128 .f32) (x3 x4 : Vec F S2048x128 .f32) (x5 : Vec F S8x256x512 .bf16) :
    View.canon (bodyA c i arg3 harg3 arg4 harg4 arg5 harg5 arg6 harg6 arg7 harg7 arg8 harg8 arg9 harg9 arg10 harg10 arg11 harg11 arg12 harg12 arg13 harg13 arg14 harg14 hc x0 x1 x2 x3 x4 x5).2.2.2.2.2.1 = k0_pay32 k0_pay7 x2 := by
  unfold bodyA
  dsimp only
  sl_unfold_words
  rw [View.canon_unit_zero off2]
  simp only [View.readAt_eq_ld, Memref.IsWhole.read_unread, View.ld_unit_zero (S := S2048x128) off2, View.ld_unit_zero (S := S1x2048x128) off3]

theorem queryA0 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x256x512 .bf16) (harg8 : arg8.IsWhole) (arg9 : Memref sig .tc .vmem S1x256x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (x0 x1 x2 : Vec F S1x2048x128 .f32) (x3 x4 : Vec F S2048x128 .f32) (x5 : Vec F S8x256x512 .bf16) :
    bodyA.sl.v6 c i arg3 harg3 arg6 harg6 arg7 harg7 arg10 x0 x3 x4 = queryAt i (k0_pay9 x3 x4 x0) := by
  unfold bodyA.sl.v6
  rw [wholeWrite harg10 (k0_pay9 x3 x4 x0) _ ?h]
  case h =>
    sl_unfold_words
    rw [View.canon_unit_zero off2]
    simp only [View.readAt_eq_ld, Memref.IsWhole.read_unread, View.ld_unit_zero (S := S2048x128) off2, View.ld_unit_zero (S := S1x2048x128) off3]
  rw [View.readAt_eq_ld, Memref.IsWhole.read_unread]
  rfl

theorem queryA1 (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x256x512 .bf16) (harg8 : arg8.IsWhole) (arg9 : Memref sig .tc .vmem S1x256x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (x0 x1 x2 : Vec F S1x2048x128 .f32) (x3 x4 : Vec F S2048x128 .f32) (x5 : Vec F S8x256x512 .bf16) :
    bodyA.sl.v8 c i arg3 harg3 arg6 harg6 arg7 harg7 arg11 x0 x3 x4 = queryAt i (k0_pay10 x3 x4 x0) := by
  unfold bodyA.sl.v8
  rw [wholeWrite harg11 (k0_pay10 x3 x4 x0) _ ?h]
  case h =>
    sl_unfold_words
    rw [View.canon_unit_zero off2]
    simp only [View.readAt_eq_ld, Memref.IsWhole.read_unread, View.ld_unit_zero (S := S2048x128) off2, View.ld_unit_zero (S := S1x2048x128) off3]
  rw [View.readAt_eq_ld, Memref.IsWhole.read_unread]
  rfl

set_option maxHeartbeats 2000000 in
/-- At a first point the stored block is `block` of what the point stored in the scratch. -/
theorem storedA (c : Dev nD) (i : grid0.Coords) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x256x512 .bf16) (harg8 : arg8.IsWhole) (arg9 : Memref sig .tc .vmem S1x256x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (hc : cond0_0 i)
    (x0 x1 x2 : Vec F S1x2048x128 .f32) (x3 x4 : Vec F S2048x128 .f32) (x5 : Vec F S8x256x512 .bf16) :
    View.canon (bodyA c i arg3 harg3 arg4 harg4 arg5 harg5 arg6 harg6 arg7 harg7 arg8 harg8 arg9 harg9 arg10 harg10 arg11 harg11 arg12 harg12 arg13 harg13 arg14 harg14 hc x0 x1 x2 x3 x4 x5).1
      = block i (k0_pay9 x3 x4 x0) (k0_pay10 x3 x4 x0) x5 (k0_pay29 k0_pay4 (k0_pay5 x3) (k0_pay6 x4) x1) (k0_pay31 k0_pay7 x2) (k0_pay32 k0_pay7 x2) := by
  unfold bodyA
  dsimp only
  rw [View.canon_unit_zero off3]
  rw [tail_eq (h := rfl)]
  rw [wholeWrite harg12 (k0_pay29 k0_pay4 (k0_pay5 x3) (k0_pay6 x4) x1) _ ?h12,
    wholeWrite harg13 (k0_pay31 k0_pay7 x2) _ ?h13, wholeWrite harg14 (k0_pay32 k0_pay7 x2) _ ?h14, state_eq]
  case h12 =>
    sl_unfold_words
    rw [View.canon_unit_zero off2]
    simp only [View.readAt_eq_ld, Memref.IsWhole.read_unread, View.ld_unit_zero (S := S2048x128) off2, View.ld_unit_zero (S := S1x2048x128) off3]
  case h13 =>
    sl_unfold_words
    rw [View.canon_unit_zero off2]
    simp only [View.readAt_eq_ld, Memref.IsWhole.read_unread, View.ld_unit_zero (S := S2048x128) off2, View.ld_unit_zero (S := S1x2048x128) off3]
  case h14 =>
    sl_unfold_words
    rw [View.canon_unit_zero off2]
    simp only [View.readAt_eq_ld, Memref.IsWhole.read_unread, View.ld_unit_zero (S := S2048x128) off2, View.ld_unit_zero (S := S1x2048x128) off3]
  rw [queryA0 c i arg3 harg3 arg4 harg4 arg5 harg5 arg6 harg6 arg7 harg7 arg8 harg8 arg9 harg9 arg10 harg10 arg11 harg11 arg12 harg12 arg13 harg13 arg14 harg14 x0 x1 x2 x3 x4 x5, queryA1 c i arg3 harg3 arg4 harg4 arg5 harg5 arg6 harg6 arg7 harg7 arg8 harg8 arg9 harg9 arg10 harg10 arg11 harg11 arg12 harg12 arg13 harg13 arg14 harg14 x0 x1 x2 x3 x4 x5]
  rfl

end Cert.KernelIdeal.Attn

end
-- ==== Proof.Attn.Real.lean ====
/- Extended reals that are real: sums, maxima, exponentials and quotients of them. -/
module

public import Idealize.ShloMosaic.PureOps.Ideal
public import Idealize.ShloMosaic.Lib.Pointwise

@[expose] public section

noncomputable section

namespace Cert.Attn

open Idealize.ShloMosaic

/-- A sum of reals, read as an extended real, is the sum of the summands so read. -/
theorem coe_sum {α : Type*} (s : Finset α) (f : α → ℝ) : ((∑ x ∈ s, f x : ℝ) : EReal) = ∑ x ∈ s, (f x : EReal) := by
  classical
  induction s using Finset.induction_on with
  | empty => simp
  | insert a s h ih => rw [Finset.sum_insert h, Finset.sum_insert h, EReal.coe_add, ih]

/-- The larger of a real and the largest of finitely many reals is a real. -/
theorem max_fold_real {α : Type*} (s : Finset α) (f : α → EReal) (hf : ∀ x, ∃ r : ℝ, f x = r) (μ : ℝ) :
    ∃ ν : ℝ, max (μ : EReal) (s.fold max ⊥ f) = ν := by
  classical
  induction s using Finset.induction_on with
  | empty => exact ⟨μ, by simp⟩
  | insert a s h ih =>
    obtain ⟨ν, hν⟩ := ih
    obtain ⟨r, hr⟩ := hf a
    refine ⟨max ν r, ?_⟩
    rw [Finset.fold_insert h, max_left_comm, hν, hr, max_comm]; exact (EReal.coe_strictMono.monotone.map_max).symm

/-- A quotient of reals by a non-zero real. -/
theorem div_real {x y : ℝ} (h : y ≠ 0) : Ideal.div (x : EReal) (y : EReal) = ((x / y : ℝ) : EReal) := by
  rw [Ideal.div_coe h, ← EReal.coe_mul, mul_one_div]

theorem exp_sub_real (x y : ℝ) : Ideal.exp ((x : EReal) - (y : EReal)) = ((Real.exp (x - y) : ℝ) : EReal) := by
  rw [← EReal.coe_sub, Ideal.exp_coe]

theorem negInf : Ideal.ofBits .f32 0xFF800000#32 = ⊥ := by simp [Ideal.ofBits, Ideal.ieee]

/-- The word the masked scores hold is a real number. -/
theorem masked_real : ∃ r : ℝ, Ideal.ofBits .f32 0xF149F2CA#32 = r := by
  refine ⟨-(13234890 * 2 ^ 76), ?_⟩
  simp only [EReal.coe_neg, EReal.coe_mul, EReal.coe_pow]
  simp [Ideal.ofBits, Ideal.ieee]

theorem eighth : Ideal.ofBits .f32 0x3E000000#32 = ((1 / 8 : ℝ) : EReal) := by
  simp [Ideal.ofBits, Ideal.ieee]; rw [← EReal.coe_mul]; norm_num

/-! ## The running sums of a row -/

/-- One block of keys folded into a row's running sums: with scores `σ` replaced by anything where the multiplicity is
    zero, the new sums are, over the new reference point `μ'`, the old ones plus the block's. -/
theorem fold_block {α : Type*} (s : Finset α) (μ μ' A : ℝ) (σ σ' w v : α → ℝ) (h : ∀ x ∈ s, w x ≠ 0 → σ' x = σ x) :
    Real.exp (μ - μ') * (Real.exp (-μ) * A) + ∑ x ∈ s, Real.exp (σ' x - μ') * w x * v x
      = Real.exp (-μ') * (A + ∑ x ∈ s, w x * Real.exp (σ x) * v x) := by
  rw [mul_add, Finset.mul_sum]
  congr 1
  · rw [← mul_assoc, ← Real.exp_add]; congr 2; ring
  · refine Finset.sum_congr rfl fun x hx => ?_
    by_cases hw : w x = 0
    · simp [hw]
    · rw [h x hx hw, sub_eq_add_neg, Real.exp_add]; ring

end Cert.Attn

end
-- ==== Proof.Attn.Spec.lean ====
/- The dilated attention as real numbers: rotated queries and keys, the multiplicity of a key, the weighted mean. -/
module

public import Idealize.ShloMosaic.PureOps.Ideal

@[expose] public section

noncomputable section

namespace Cert.Attn

/-- A head's columns turned by the angle whose cosines and sines are `C` and `S`: column `j` pairs with the column 32 away
    in the same head of 64. -/
def ropeAt (x C S : ℕ → ℝ) (j : ℕ) : ℝ :=
  if j % 64 < 32 then x j * C (j % 32) - x (j + 32) * S (j % 32) else x j * C (j % 32) + x (j - 32) * S (j % 32)

/-- In how many of the three branches the query at position `t` meets the key at position `u`. -/
def mult (t u : ℕ) : ℕ :=
  (if u ≤ t ∧ t - u ≤ 128 ∧ 1 ∣ t - u then 1 else 0) + (if u ≤ t ∧ t - u ≤ 512 ∧ 4 ∣ t - u then 1 else 0)
    + (if u ≤ t ∧ t - u ≤ 2048 ∧ 16 ∣ t - u then 1 else 0)

/-- The layer's projections of one row of the batch, and the tables of cosines and sines. -/
structure Given where
  z : ℕ → ℕ → ℝ
  C : ℕ → ℕ → ℝ
  S : ℕ → ℕ → ℝ

variable (g : Given)

/-- Rotated query, rotated key and value at position `t`, column `j` of 512. -/
def Given.q (t j : ℕ) : ℝ := ropeAt (fun c => g.z t c) (g.C t) (g.S t) j
def Given.k (t j : ℕ) : ℝ := ropeAt (fun c => g.z t (512 + c)) (g.C t) (g.S t) j
def Given.v (t j : ℕ) : ℝ := g.z t (1024 + j)

/-- The scaled score of head `h` between positions `t` and `u`. -/
def Given.score (h t u : ℕ) : ℝ := (∑ d ∈ Finset.range 64, g.q t (64 * h + d) * g.k u (64 * h + d)) * (1 / 8)

/-- The sum over the first `n` keys, each with its multiplicity and the exponential of its score, of `f`. -/
def Given.total (h t n : ℕ) (f : ℕ → ℝ) : ℝ := ∑ u ∈ Finset.range n, (mult t u : ℝ) * Real.exp (g.score h t u) * f u

/-- The attention at position `t`, column `j`. -/
def Given.out (t j : ℕ) : ℝ := g.total (j / 64) t 2048 (fun u => g.v u j) / g.total (j / 64) t 2048 (fun _ => 1)

/-- A turn of one head does not see the other columns. -/
theorem ropeAt_shift (x C S : ℕ → ℝ) (m l : ℕ) : ropeAt x C S (64 * m + l) = ropeAt (fun c => x (64 * m + c)) C S l := by
  unfold ropeAt
  have h1 : (64 * m + l) % 64 = l % 64 := by omega
  have h2 : (64 * m + l) % 32 = l % 32 := by omega
  rw [h1, h2]
  split
  · rw [Nat.add_assoc]
  · rw [show 64 * m + l - 32 = 64 * m + (l - 32) by omega]

/-- The multiplicity depends on the distance alone. -/
theorem mult_shift (s t u : ℕ) : mult (s + t) (s + u) = mult t u := by
  have h1 : s + u ≤ s + t ↔ u ≤ t := by omega
  have h2 : s + t - (s + u) = t - u := by omega
  simp only [mult, h1, h2]

theorem mult_self (t : ℕ) : mult t t = 3 := by simp [mult]

theorem mult_later {t u : ℕ} (h : t < u) : mult t u = 0 := by
  have : ¬ u ≤ t := by omega
  simp [mult, this]

/-- Keys after the query count for nothing. -/
theorem Given.total_cut (h t n m : ℕ) (f : ℕ → ℝ) (hn : t < n) (hm : n ≤ m) : g.total h t n f = g.total h t m f := by
  refine Finset.sum_subset (Finset.range_mono hm) fun u _ hu => ?_
  rw [mult_later (by rw [Finset.mem_range] at hu; omega)]; simp

/-- The sum of the weights is positive: a query meets its own key. -/
theorem Given.total_pos (h t n : ℕ) (hn : t < n) : 0 < g.total h t n fun _ => 1 := by
  refine Finset.sum_pos' (fun u _ => by positivity) ⟨t, Finset.mem_range.mpr hn, ?_⟩
  rw [mult_self]; positivity

/-- One more block of keys. -/
theorem Given.total_block (h t n b : ℕ) (f : ℕ → ℝ) :
    g.total h t (n + b) f = g.total h t n f
      + ∑ x : Fin b, (mult t (n + x) : ℝ) * Real.exp (g.score h t (n + x)) * f (n + x) := by
  unfold Given.total
  rw [Finset.sum_range_add, Finset.sum_range fun x => (mult t (n + x) : ℝ) * Real.exp (g.score h t (n + x)) * f (n + x)]

end Cert.Attn

end
-- ==== Proof.Attn.Pay.lean ====
/- The kernel's vector computations read at an index: a trip's new maximum and sums, the stored block, the rotated
   queries and keys, the values beside ones. -/
module

public import proofs.«01_k».proof.Proof.Attn.Trip
public import proofs.«01_k».proof.Proof.Attn.Real
public import proofs.«01_k».proof.Proof.Attn.Spec

@[expose] public section

set_option maxRecDepth 16384

noncomputable section

namespace Cert.KernelIdeal.Attn

open Cert.KernelIdeal.Gen Cert.Attn
open Idealize.ShloMosaic Idealize.ShloMosaic.TcCoe Idealize.ShloMosaic.Tactic

/-- What a row of the carried value says after some keys: a reference point `μ` and, per lane, `e^(-μ)` times the sum `A`. -/
def RowState (m : FVec Ideal S256x1 .f32) (a : FVec Ideal S256x128 .f32) (r : Fin 256) (A : Fin 128 → ℝ) : Prop :=
  ∃ μ : ℝ, m (ix2 r 0) = (μ : EReal) ∧ ∀ l, a (ix2 r l) = ((Real.exp (-μ) * A l : ℝ) : EReal)

theorem rowState_init (r : Fin 256) : RowState (k0_pay34 (F := Ideal)) (k0_pay35 (F := Ideal)) r fun _ => 0 := by
  obtain ⟨μ, hμ⟩ := masked_real
  refine ⟨μ, ?_, fun l => ?_⟩
  · pointwise [k0_pay34]; exact hμ
  · pointwise [k0_pay35]; simp

variable (q : Vec Ideal S256x128 .bf16) (K V : Vec Ideal S512x128 .bf16) (W : Vec Ideal S1x256x512 .bf16) (r : Fin 256)
  (qr : Fin 128 → ℝ) (Kr Vr : Fin 512 → Fin 128 → ℝ) (w : Fin 512 → ℝ)

/-- The score of a key, or the mask's word. -/
theorem score_real (hq : ∀ l, q (ix2 r l) = (qr l : EReal)) (hK : ∀ x l, K (ix2 x l) = (Kr x l : EReal))
    (hW : ∀ x, W (ix3 0 r x) = (w x : EReal)) (h0 : ∀ x, 0 ≤ w x) :
    ∃ σ : Fin 512 → ℝ, (∀ x, k0_pay13 q K W (ix2 r x) = (σ x : EReal)) ∧ ∀ x, w x ≠ 0 → σ x = ∑ l, qr l * Kr x l := by
  obtain ⟨ν, hν⟩ := masked_real
  refine ⟨fun x => if 0 < w x then ∑ l, qr l * Kr x l else ν, fun x => ?_, fun x hx => if_pos (lt_of_le_of_ne (h0 x) (Ne.symm hx))⟩
  pointwise [k0_pay13, k0_pay12, k0_pay11]
  rw [hW]
  by_cases h : 0 < w x
  · rw [if_pos (by exact_mod_cast h), if_pos h, coe_sum]
    exact Finset.sum_congr rfl fun l _ => by rw [hq, hK, EReal.coe_mul]
  · rw [if_neg (by exact_mod_cast h), if_neg h]; exact hν

theorem state_step (m : FVec Ideal S256x1 .f32) (a : FVec Ideal S256x128 .f32) (A : Fin 128 → ℝ) (hs : RowState m a r A)
    (hq : ∀ l, q (ix2 r l) = (qr l : EReal)) (hK : ∀ x l, K (ix2 x l) = (Kr x l : EReal))
    (hW : ∀ x, W (ix3 0 r x) = (w x : EReal)) (h0 : ∀ x, 0 ≤ w x) (hV : ∀ x l, V (ix2 x l) = (Vr x l : EReal)) :
    RowState (k0_pay14 q m K W) (k0_pay15 q m a K W V) r
      fun l => A l + ∑ x, w x * Real.exp (∑ l, qr l * Kr x l) * Vr x l := by
  obtain ⟨μ, hm, ha⟩ := hs
  obtain ⟨σ, hσ, hσ'⟩ := score_real q K W r qr Kr w hq hK hW h0
  obtain ⟨μ', hμ'⟩ := max_fold_real Finset.univ (fun x => k0_pay13 q K W (ix2 r x)) (fun x => ⟨_, hσ x⟩) μ
  have h14 : k0_pay14 q m K W (ix2 r 0) = (μ' : EReal) := by
    pointwise [k0_pay14]
    rw [hm, negInf]; exact hμ'
  refine ⟨μ', h14, fun l => ?_⟩
  pointwise [k0_pay15, k0_pay11]
  rw [h14, hm, ha, exp_sub_real, ← EReal.coe_mul,
    ← fold_block Finset.univ μ μ' (A l) (fun x => ∑ l, qr l * Kr x l) σ w (fun x => Vr x l) (fun x _ h => hσ' x h), EReal.coe_add, coe_sum]
  congr 1
  refine Finset.sum_congr rfl fun x _ => ?_
  rw [hσ, hW, hV, exp_sub_real, EReal.coe_mul, EReal.coe_mul]

/-- The second head's trip computes the same. -/
theorem second_max (m : FVec Ideal S256x1 .f32) : k0_pay17 q m K W = k0_pay14 q m K W := rfl

theorem second_sum (m : FVec Ideal S256x1 .f32) (a : FVec Ideal S256x128 .f32) :
    k0_pay1 (k0_pay18 q m K W) (k0_pay19 q m a K W) V = k0_pay15 q m a K W V := rfl

/-- The lanes' tests: the first head of the pair, and the first half of a head. -/
theorem lane_first (l : Fin 128) : IntOp.cmpi CmpIPredicate.slt (BitVec.ofNat 32 l.val) 64#32 = if l.val < 64 then 1#1 else 0#1 := by
  revert l; decide

theorem lane_half (l : Fin 128) : IntOp.cmpi CmpIPredicate.eq (IntOp.andi (BitVec.ofNat 32 l.val) 32#32) 0#32
    = if l.val % 64 < 32 then 1#1 else 0#1 := by
  revert l; decide

theorem select_ite {α : Type} {p : Prop} [Decidable p] (x y : α) : Scalar.select (if p then 1#1 else 0#1) x y = if p then x else y := by
  by_cases h : p <;> simp [h, Scalar.select]

/-- The stored block at an index: a lane's sum over the lane half a row away. -/
theorem stored_at (a b : FVec Ideal S256x128 .f32) (l : Fin 128) :
    k0_pay3 k0_pay33 a b (ix3 0 r l)
      = if l.val < 64 then Ideal.div (a (ix2 r l)) (a (ix2 r ⟨(l.val + 64) % 128, Nat.mod_lt _ (by decide)⟩))
        else Ideal.div (b (ix2 r l)) (b (ix2 r ⟨(l.val + 64) % 128, Nat.mod_lt _ (by decide)⟩)) := by
  pointwise [k0_pay3, k0_pay33]
  have e : (l.val + 128 - 64) % 128 = (l.val + 64) % 128 := by omega
  simp only [lane_first, select_ite, e]

section
variable (x y : Vec Ideal S2048x128 .f32) (p : Vec Ideal S1x2048x128 .f32) (t : Fin 2048) (l : Fin 128) (pr C S : ℕ → ℝ)
  (hp : ∀ l : Fin 128, p (ix3 0 t l) = (pr l.val : EReal)) (hc : ∀ l : Fin 128, x (ix2 t l) = (C (l.val % 32) : EReal))
  (hs : ∀ l : Fin 128, y (ix2 t l) = (S (l.val % 32) : EReal))
include hp hc hs

theorem rot_real : p (ix3 0 t l) * x (ix2 t l)
      + (if l.val % 64 < 32 then 0 - p (ix3 0 t ⟨(l.val + 128 - 96) % 128, Nat.mod_lt _ (by decide)⟩)
          else p (ix3 0 t ⟨(l.val + 128 - 32) % 128, Nat.mod_lt _ (by decide)⟩)) * y (ix2 t l)
    = ((ropeAt pr C S l.val : ℝ) : EReal) := by
  rw [hp, hp, hp, hc, hs]
  have hl := l.isLt
  unfold ropeAt
  by_cases h : l.val % 64 < 32
  · rw [if_pos h, if_pos h]
    have e : (l.val + 128 - 96) % 128 = l.val + 32 := by omega
    simp only [e]
    rw [zero_sub, ← EReal.coe_neg, ← EReal.coe_mul, ← EReal.coe_mul, ← EReal.coe_add]
    congr 1; ring
  · rw [if_neg h, if_neg h]
    have e : (l.val + 128 - 32) % 128 = l.val - 32 := by omega
    simp only [e]
    rw [← EReal.coe_mul, ← EReal.coe_mul, ← EReal.coe_add]

/-- The rotated, scaled queries of the pair's first head, zero on the other lanes. -/
theorem query0_at : k0_pay9 x y p (ix2 t l) = ((if l.val < 64 then ropeAt pr C S l.val * (1 / 8) else 0 : ℝ) : EReal) := by
  pointwise [k0_pay9, k0_pay7, k0_pay8, k0_pay5, k0_pay6, k0_pay4]
  rw [lane_first, lane_half, select_ite, select_ite, rot_real x y p t l pr C S hp hc hs, eighth, ← EReal.coe_mul]
  split <;> simp

/-- The same of the second head. -/
theorem query1_at : k0_pay10 x y p (ix2 t l) = ((if l.val < 64 then 0 else ropeAt pr C S l.val * (1 / 8) : ℝ) : EReal) := by
  pointwise [k0_pay10, k0_pay7, k0_pay8, k0_pay5, k0_pay6, k0_pay4]
  rw [lane_first, lane_half, select_ite, select_ite, rot_real x y p t l pr C S hp hc hs, eighth, ← EReal.coe_mul]
  split <;> simp

/-- The rotated keys. -/
theorem key_at : k0_pay29 k0_pay4 (k0_pay5 x) (k0_pay6 y) p (ix2 t l) = ((ropeAt pr C S l.val : ℝ) : EReal) := by
  pointwise [k0_pay29, k0_pay5, k0_pay6, k0_pay4]
  rw [lane_half, select_ite, rot_real x y p t l pr C S hp hc hs]

omit hc hs
/-- The values of the first head beside ones, and of the second. -/
theorem value0_at : k0_pay31 k0_pay7 p (ix2 t l) = ((if l.val < 64 then pr l.val else 1 : ℝ) : EReal) := by
  pointwise [k0_pay31, k0_pay30, k0_pay7]
  rw [lane_first, select_ite, hp]
  split <;> simp

theorem value1_at : k0_pay32 k0_pay7 p (ix2 t l) = ((if l.val < 64 then 1 else pr l.val : ℝ) : EReal) := by
  pointwise [k0_pay32, k0_pay30, k0_pay7]
  rw [lane_first, select_ite, hp]
  split <;> simp
end

end Cert.KernelIdeal.Attn

end
-- ==== Proof.Attn.Loop.lean ====
/- The loop over key blocks: its offsets and trip count, the carried sums before each trip, and the block the point
   stores, which is the attention at the block's positions and columns. -/
module

public import proofs.«01_k».proof.Proof.Attn.Pay

@[expose] public section

set_option maxRecDepth 16384

noncomputable section

namespace Cert.KernelIdeal.Attn

open Cert.KernelIdeal.Gen Cert.Attn
open Idealize.ShloMosaic Idealize.ShloMosaic.TcCoe Idealize.ShloMosaic.Tactic

theorem trips_eq : ∀ i : grid0.Coords, (k0_t1_loop i).trips = (i 2).val / 2 + 1 := by decide +kernel
theorem offK_eq : ∀ (i : grid0.Coords) (k : Fin (k0_t1_loop i).trips), k0_off2 i k = ![512 * k.val, 0] := by decide +kernel
theorem offW_eq : ∀ (i : grid0.Coords) (k : Fin (k0_t1_loop i).trips), k0_off3 i k = ![(i 2).val - 2 * k.val, 0, 0] := by decide +kernel

theorem trip_lt (i : grid0.Coords) (k : Fin (k0_t1_loop i).trips) : 2 * k.val ≤ (i 2).val ∧ k.val < 4 := by
  have h : k.val < (i 2).val / 2 + 1 := lt_of_lt_of_eq k.isLt (trips_eq i)
  have h8 : (i 2).val < 8 := (i 2).isLt
  omega

theorem rowsAt_at (i : grid0.Coords) (k : Fin (k0_t1_loop i).trips) (K : Vec Ideal S2048x128 .bf16) (x : Fin 512) (l : Fin 128) :
    rowsAt i k K (ix2 x l) = K (ix2 ⟨512 * k.val + x.val, by have := (trip_lt i k).2; omega⟩ l) := by
  unfold rowsAt
  refine View.ld_unit_apply_of _ _ _ _ _ _ fun a => ?_
  refine Eq.trans ?_ (congrArg (fun o => o + _) (congrFun (offK_eq i k) a).symm)
  match a with
  | ⟨0, _⟩ => rfl
  | ⟨1, _⟩ => exact (Nat.zero_add _).symm

theorem multAt_at (i : grid0.Coords) (k : Fin (k0_t1_loop i).trips) (W : Vec Ideal S8x256x512 .bf16) (r : Fin 256) (x : Fin 512) :
    multAt i k W (ix3 0 r x) = W (ix3 ⟨(i 2).val - 2 * k.val, by have : (i 2).val < 8 := (i 2).isLt; omega⟩ r x) := by
  unfold multAt
  refine View.ld_unit_apply_of _ _ _ _ _ _ fun a => ?_
  refine Eq.trans ?_ (congrArg (fun o => o + _) (congrFun (offW_eq i k) a).symm)
  match a with
  | ⟨0, _⟩ => rfl
  | ⟨1, _⟩ => exact (Nat.zero_add _).symm
  | ⟨2, _⟩ => exact (Nat.zero_add _).symm

theorem row_lt (i : grid0.Coords) (r : Fin 256) : 256 * (i 2).val + r.val < 2048 := by
  have : (i 2).val < 8 := (i 2).isLt
  omega

theorem queryAt_at (i : grid0.Coords) (Q : Vec Ideal S2048x128 .bf16) (r : Fin 256) (l : Fin 128) :
    queryAt i Q (ix2 r l) = Q (ix2 ⟨256 * (i 2).val + r.val, row_lt i r⟩ l) := by
  unfold queryAt
  refine View.ld_unit_apply_of _ _ _ _ _ _ fun a => ?_
  refine Eq.trans ?_ (congrArg (fun o => o + _) (congrFun (k0_off1_eq i) a).symm)
  match a with
  | ⟨0, _⟩ => rfl
  | ⟨1, _⟩ => exact (Nat.zero_add _).symm

/-! ## The scores -/

/-- A sum over 128 lanes of a term that is zero off the first 64. -/
theorem sum_first (f : ℕ → ℝ) (h : ∀ l, 64 ≤ l → f l = 0) : ∑ l : Fin 128, f l.val = ∑ d ∈ Finset.range 64, f d := by
  rw [← Finset.sum_range, show (128 : ℕ) = 64 + 64 from rfl, Finset.sum_range_add,
    Finset.sum_eq_zero (s := Finset.range 64) (f := fun x => f (64 + x)) fun x _ => h _ (by omega), add_zero]

/-- A sum over 128 lanes of a term that is zero on the first 64. -/
theorem sum_second (f : ℕ → ℝ) (h : ∀ l, l < 64 → f l = 0) : ∑ l : Fin 128, f l.val = ∑ d ∈ Finset.range 64, f (64 + d) := by
  rw [← Finset.sum_range, show (128 : ℕ) = 64 + 64 from rfl, Finset.sum_range_add,
    Finset.sum_eq_zero (s := Finset.range 64) (f := f) fun x hx => h _ (Finset.mem_range.mp hx), zero_add]

variable (g : Given) (j : ℕ)

theorem score_first (t u : ℕ) :
    ∑ l : Fin 128, (if l.val < 64 then g.q t (128 * j + l.val) * (1 / 8) else 0) * g.k u (128 * j + l.val) = g.score (2 * j) t u := by
  rw [sum_first (fun l => (if l < 64 then g.q t (128 * j + l) * (1 / 8) else 0) * g.k u (128 * j + l))
    fun l h => by rw [if_neg (by omega), zero_mul]]
  unfold Given.score
  rw [Finset.sum_mul]
  refine Finset.sum_congr rfl fun d hd => ?_
  rw [if_pos (Finset.mem_range.mp hd), show 64 * (2 * j) + d = 128 * j + d by omega]; ring

theorem score_second (t u : ℕ) :
    ∑ l : Fin 128, (if l.val < 64 then 0 else g.q t (128 * j + l.val) * (1 / 8)) * g.k u (128 * j + l.val) = g.score (2 * j + 1) t u := by
  rw [sum_second (fun l => (if l < 64 then 0 else g.q t (128 * j + l) * (1 / 8)) * g.k u (128 * j + l))
    fun l h => by rw [if_pos h, zero_mul]]
  unfold Given.score
  rw [Finset.sum_mul]
  refine Finset.sum_congr rfl fun d hd => ?_
  rw [if_neg (by omega), show 64 * (2 * j + 1) + d = 128 * j + (64 + d) by omega]; ring

/-! ## The carried sums -/

/-- The scratch and the table hold, for the pair `j` of heads, what the attention reads. -/
structure Holds (Q0 Q1 : Vec Ideal S2048x128 .bf16) (W : Vec Ideal S8x256x512 .bf16) (K V0 V1 : Vec Ideal S2048x128 .bf16) : Prop where
  q0 : ∀ (t : Fin 2048) (l : Fin 128), Q0 (ix2 t l) = ((if l.val < 64 then g.q t (128 * j + l.val) * (1 / 8) else 0 : ℝ) : EReal)
  q1 : ∀ (t : Fin 2048) (l : Fin 128), Q1 (ix2 t l) = ((if l.val < 64 then 0 else g.q t (128 * j + l.val) * (1 / 8) : ℝ) : EReal)
  k : ∀ (u : Fin 2048) (l : Fin 128), K (ix2 u l) = (g.k u (128 * j + l.val) : EReal)
  v0 : ∀ (u : Fin 2048) (l : Fin 128), V0 (ix2 u l) = ((if l.val < 64 then g.v u (128 * j + l.val) else 1 : ℝ) : EReal)
  v1 : ∀ (u : Fin 2048) (l : Fin 128), V1 (ix2 u l) = ((if l.val < 64 then 1 else g.v u (128 * j + l.val) : ℝ) : EReal)
  w : ∀ (b : Fin 8) (r : Fin 256) (x : Fin 512), W (ix3 b r x) = (((mult (256 * b + r) x : ℕ) : ℝ) : EReal)

variable {g j} {Q0 Q1 : Vec Ideal S2048x128 .bf16} {W : Vec Ideal S8x256x512 .bf16} {K V0 V1 : Vec Ideal S2048x128 .bf16}

/-- Before trip `n` a row's sums run over the first `512 n` keys. -/
theorem carry_state (H : Holds g j Q0 Q1 W K V0 V1) (i : grid0.Coords) (r : Fin 256) (n : ℕ) (hn : n ≤ (k0_t1_loop i).trips) :
    RowState (carry i (queryAt i Q0) (queryAt i Q1) W K V0 V1 n).1 (carry i (queryAt i Q0) (queryAt i Q1) W K V0 V1 n).2.1 r
        (fun l => g.total (2 * j) (256 * (i 2).val + r.val) (512 * n) fun u => if l.val < 64 then g.v u (128 * j + l.val) else 1)
    ∧ RowState (carry i (queryAt i Q0) (queryAt i Q1) W K V0 V1 n).2.2.1 (carry i (queryAt i Q0) (queryAt i Q1) W K V0 V1 n).2.2.2 r
        (fun l => g.total (2 * j + 1) (256 * (i 2).val + r.val) (512 * n) fun u => if l.val < 64 then 1 else g.v u (128 * j + l.val)) := by
  induction n with
  | zero =>
    have h := rowState_init r
    simp only [Nat.mul_zero, Given.total, Finset.range_zero, Finset.sum_empty]
    exact ⟨h, h⟩
  | succ n ih =>
    obtain ⟨ih0, ih1⟩ := ih (by omega)
    have hk : n < (k0_t1_loop i).trips := by omega
    rw [carry, dif_pos hk]
    have h4 := trip_lt i ⟨n, hk⟩
    have hmult : ∀ x : Fin 512, multAt i ⟨n, hk⟩ W (ix3 0 r x)
        = (((mult (256 * (i 2).val + r.val) (512 * n + x.val) : ℕ) : ℝ) : EReal) := fun x => by
      rw [multAt_at, H.w, ← mult_shift (512 * n)]
      have e : 512 * n + (256 * ((i 2).val - 2 * n) + r.val) = 256 * (i 2).val + r.val := by
        have := h4.1
        dsimp only at this
        omega
      rw [e]
    constructor
    · have h := state_step (queryAt i Q0) (rowsAt i ⟨n, hk⟩ K) (rowsAt i ⟨n, hk⟩ V0) (multAt i ⟨n, hk⟩ W) r _ _ _ _ _ _ _ ih0
        (fun l => (queryAt_at i Q0 r l).trans (H.q0 _ l)) (fun x l => (rowsAt_at i _ K x l).trans (H.k _ l)) hmult
        (fun x => Nat.cast_nonneg _) (fun x l => (rowsAt_at i _ V0 x l).trans (H.v0 _ l))
      simp only [score_first] at h
      simp only [Nat.mul_succ, Given.total_block]
      exact h
    · have h := state_step (queryAt i Q1) (rowsAt i ⟨n, hk⟩ K) (rowsAt i ⟨n, hk⟩ V1) (multAt i ⟨n, hk⟩ W) r _ _ _ _ _ _ _ ih1
        (fun l => (queryAt_at i Q1 r l).trans (H.q1 _ l)) (fun x l => (rowsAt_at i _ K x l).trans (H.k _ l)) hmult
        (fun x => Nat.cast_nonneg _) (fun x l => (rowsAt_at i _ V1 x l).trans (H.v1 _ l))
      simp only [score_second] at h
      simp only [Nat.mul_succ, Given.total_block]
      exact h

theorem ratio {E A B : ℝ} (hE : E ≠ 0) (hB : B ≠ 0) : Ideal.div ((E * A : ℝ) : EReal) ((E * B : ℝ) : EReal) = ((A / B : ℝ) : EReal) := by
  rw [div_real (mul_ne_zero hE hB), mul_div_mul_left _ _ hE]

/-- The stored block is the attention at the block's positions and the pair's columns. -/
theorem block_at (H : Holds g j Q0 Q1 W K V0 V1) (i : grid0.Coords) (r : Fin 256) (l : Fin 128) :
    block i Q0 Q1 W K V0 V1 (ix3 0 r l) = ((g.out (256 * (i 2).val + r.val) (128 * j + l.val) : ℝ) : EReal) := by
  unfold block
  obtain ⟨⟨μ, -, h0⟩, ⟨ν, -, h1⟩⟩ := carry_state H i r _ (le_refl (k0_t1_loop i).trips)
  rw [stored_at]
  have hr := r.isLt
  have hl := l.isLt
  have h8 : (i 2).val < 8 := (i 2).isLt
  have ht : 256 * (i 2).val + r.val < 512 * (k0_t1_loop i).trips := by rw [trips_eq]; omega
  have hm : 512 * (k0_t1_loop i).trips ≤ 2048 := by rw [trips_eq]; omega
  unfold Given.out
  by_cases h : l.val < 64
  · rw [if_pos h, h0, h0, ratio (Real.exp_ne_zero _)]
    · have e : ¬ (l.val + 64) % 128 < 64 := by omega
      have e2 : (128 * j + l.val) / 64 = 2 * j := by omega
      simp only [h, e, if_true, if_false, e2]
      rw [g.total_cut _ _ _ _ _ ht hm, g.total_cut _ _ _ _ _ ht hm]
    · have e : ¬ (l.val + 64) % 128 < 64 := by omega
      simp only [e, if_false]
      exact (g.total_pos _ _ _ ht).ne'
  · rw [if_neg h, h1, h1, ratio (Real.exp_ne_zero _)]
    · have e : (l.val + 64) % 128 < 64 := by omega
      have e2 : (128 * j + l.val) / 64 = 2 * j + 1 := by omega
      simp only [h, e, if_true, if_false, e2]
      rw [g.total_cut _ _ _ _ _ ht hm, g.total_cut _ _ _ _ _ ht hm]
    · have e : (l.val + 64) % 128 < 64 := by omega
      simp only [e, if_true]
      exact (g.total_pos _ _ _ ht).ne'

end Cert.KernelIdeal.Attn

end
-- ==== Proof.Attn.Angle.lean ====
/- The angles of the rotation are reals; their cosines and sines. -/
module

public import proofs.«01_k».proof.Proof.Attn.Real

@[expose] public section

noncomputable section

namespace Cert.Attn

open Idealize.ShloMosaic

/-- The frequency of the pair `j` of lanes. -/
def freq (j : ℕ) : EReal :=
  Ideal.pow (Ideal.ofBits .f32 0x461C4000#32)
    (Ideal.div (Ideal.ofBits .f32 0xC0000000#32 * FloatOps.sitofp (F := Ideal) .f32 (BitVec.ofNat 32 j)) (Ideal.ofBits .f32 0x42800000#32))

/-- The angle of position `t` at the pair `j` of lanes. -/
def angle (t j : ℕ) : EReal := FloatOps.sitofp (F := Ideal) .f32 (BitVec.ofNat 32 t) * freq j

theorem freq_real (j : ℕ) : ∃ a : ℝ, freq j = a := by
  have h1 : Ideal.ofBits .f32 0x461C4000#32 = ((10000 : ℝ) : EReal) := by
    simp [Ideal.ofBits, Ideal.ieee]; rw [← EReal.coe_mul]; norm_num
  have h2 : Ideal.ofBits .f32 0xC0000000#32 = ((-2 : ℝ) : EReal) := by
    simp [Ideal.ofBits, Ideal.ieee]; rw [← EReal.coe_mul]; norm_num
  have h3 : Ideal.ofBits .f32 0x42800000#32 = ((64 : ℝ) : EReal) := by
    simp [Ideal.ofBits, Ideal.ieee]; rw [← EReal.coe_mul]; norm_num
  obtain ⟨n, hn⟩ : ∃ n : ℝ, FloatOps.sitofp (F := Ideal) .f32 (BitVec.ofNat 32 j) = (n : EReal) := ⟨_, rfl⟩
  unfold freq
  rw [h1, h2, h3, hn, ← EReal.coe_mul, div_real (by norm_num)]
  exact ⟨_, rfl⟩

theorem angle_real (t j : ℕ) : ∃ a : ℝ, angle t j = a := by
  obtain ⟨n, hn⟩ : ∃ n : ℝ, FloatOps.sitofp (F := Ideal) .f32 (BitVec.ofNat 32 t) = (n : EReal) := ⟨_, rfl⟩
  obtain ⟨a, ha⟩ := freq_real j
  unfold angle
  rw [hn, ha]
  exact ⟨n * a, (EReal.coe_mul _ _).symm⟩

/-- The cosine and the sine of the angle. -/
def cosAt (t j : ℕ) : ℝ := (Ideal.cos (angle t j)).toReal
def sinAt (t j : ℕ) : ℝ := (Ideal.sin (angle t j)).toReal

theorem cos_angle (t j : ℕ) : Ideal.cos (angle t j) = (cosAt t j : EReal) := by
  obtain ⟨a, ha⟩ := angle_real t j
  unfold cosAt
  rw [ha]; rfl

theorem sin_angle (t j : ℕ) : Ideal.sin (angle t j) = (sinAt t j : EReal) := by
  obtain ⟨a, ha⟩ := angle_real t j
  unfold sinAt
  rw [ha]; rfl

end Cert.Attn

end
-- ==== Proof.Attn.Tables.lean ====
/- The tables the kernel reads: cosines, sines, and in how many branches a query meets a key. -/
module

public import proofs.«01_k».proof.Proof.Gen.KernelIdeal.Frame.Runs
public import proofs.«01_k».proof.Proof.Attn.Angle
public import proofs.«01_k».proof.Proof.Attn.Spec
public import Idealize.ShloMosaic.Lib.Claim
public import Idealize.ShloMosaic.Lib.Pointwise
public import Idealize.ShloMosaic.Lib.Tactic.CleanTypes
public import Idealize.ShloMosaic.Lib.StableHlo.RunRead

@[expose] public section

set_option maxRecDepth 16384

noncomputable section

namespace Cert.KernelIdeal.Attn
open Cert.KernelIdeal.Gen Cert.Attn
open Idealize.ShloMosaic Idealize.ShloMosaic.TcCoe Idealize.ShloMosaic.Tactic
open Idealize.SL.Sem

/-! ## One branch's test of a distance -/

/-- A branch's test of the word `D`: not negative, at most `bound`, and with no rest by `dil`. -/
def band (bound dil D : BitVec 32) : BitVec 1 :=
  IntOp.andi (IntOp.andi (IntOp.cmpi .sge D 0#32) (IntOp.cmpi .sle D bound))
    (IntOp.cmpi .eq
      (Scalar.select
        (IntOp.andi (IntOp.cmpi .ne (IntOp.cmpi .slt (IntOp.remsi .host D dil) 0#32) (IntOp.cmpi .slt dil 0#32))
          (IntOp.cmpi .ne (IntOp.remsi .host D dil) 0#32))
        (IntOp.addi (IntOp.remsi .host D dil) dil) (IntOp.remsi .host D dil)) 0#32)

/-- The word of the distance `n - 1024`. -/
def gap (n : ℕ) : BitVec 32 := BitVec.ofNat 32 n - 1024#32

theorem band1 : ∀ n : Fin 3072, (band 128#32 1#32 (gap n)).toNat = if 1024 ≤ n.val ∧ n.val - 1024 ≤ 128 ∧ 1 ∣ n.val - 1024 then 1 else 0 := by
  decide +kernel

theorem band4 : ∀ n : Fin 3072, (band 512#32 4#32 (gap n)).toNat = if 1024 ≤ n.val ∧ n.val - 1024 ≤ 512 ∧ 4 ∣ n.val - 1024 then 1 else 0 := by
  decide +kernel

theorem band16 : ∀ n : Fin 3072, (band 2048#32 16#32 (gap n)).toNat = if 1024 ≤ n.val ∧ n.val - 1024 ≤ 2048 ∧ 16 ∣ n.val - 1024 then 1 else 0 := by
  decide +kernel

/-- The three tests added. -/
theorem bands {t u : ℕ} (ht : t < 2048) (hu : u < 1024) {D : BitVec 32} (hD : D = gap (1024 + t - u)) :
    FloatOps.uitofp (F := Ideal) .f32 (band 128#32 1#32 D) + FloatOps.uitofp (F := Ideal) .f32 (band 512#32 4#32 D)
      + FloatOps.uitofp (F := Ideal) .f32 (band 2048#32 16#32 D) = (((mult t u : ℕ) : ℝ) : EReal) := by
  have h : ∀ b : BitVec 1, FloatOps.uitofp (F := Ideal) .f32 b = (((b.toNat : ℕ) : ℝ) : EReal) := fun _ => rfl
  have hn : 1024 + t - u < 3072 := by omega
  rw [h, h, h, hD, band1 ⟨_, hn⟩, band4 ⟨_, hn⟩, band16 ⟨_, hn⟩, ← EReal.coe_add, ← EReal.coe_add, ← Nat.cast_add, ← Nat.cast_add]
  have e1 : (1024 ≤ 1024 + t - u) ↔ u ≤ t := by omega
  have e2 : 1024 + t - u - 1024 = t - u := by omega
  simp only [mult, e1, e2]

variable (m : (ℓ : Loc nD τ sig) → Buf (Elt Ideal) ℓ) (c : Dev nD)

/-- The table of cosines: four copies of the 32 angles of a position. -/
theorem cos_at (t : Fin 2048) (l : Fin 128) : (V m c main_v16 : Vec Ideal S2048x128 .f32) (ix2 t l) = (cosAt t.val (l.val % 32) : EReal) := by
  unfold V
  simp only [List.flatten_cons, List.flatten_nil, List.cons_append, List.nil_append]
  after_reads_simp
  clean_types
  pointwise []
  exact cos_angle _ _

/-- The table of sines. -/
theorem sin_at (t : Fin 2048) (l : Fin 128) : (V m c main_v20 : Vec Ideal S2048x128 .f32) (ix2 t l) = (sinAt t.val (l.val % 32) : EReal) := by
  unfold V
  simp only [List.flatten_cons, List.flatten_nil, List.cons_append, List.nil_append]
  after_reads_simp
  clean_types
  pointwise []
  exact sin_angle _ _

/-- The table of multiplicities: plane `b`, row `r`, entry `x` for the distance `256 b + r - x`. -/
theorem w_at (b : Fin 8) (r : Fin 256) (x : Fin 512) :
    (V m c main_v69 : Vec Ideal S8x256x512 .bf16) (ix3 b r x) = (((mult (256 * b.val + r.val) x.val : ℕ) : ℝ) : EReal) := by
  unfold V
  simp only [List.flatten_cons, List.flatten_nil, List.cons_append, List.nil_append]
  after_reads_simp
  simp only [StableHlo.TRef.toBuf, StableHlo.TRef.ofBuf, cast_eq, id_eq]
  generalize hD : (subi (w := 32) (s := S8x256x512) (broadcastInDim (s := S8x256x1) S8x256x512 _ _ _) (broadcastInDim (s := S1x1x512) S8x256x512 _ _ _)) = D
  have hd : D (ix3 b r x) = gap (1024 + (256 * b.val + r.val) - x.val) := by
    rw [← hD]
    pointwise []
    have hb := b.isLt
    have hr := r.isLt
    have hx := x.isLt
    apply BitVec.eq_of_toNat_eq
    simp only [gap, IntOp.subi, IntOp.addi, IntOp.muli, BitVec.toNat_sub, BitVec.toNat_add, BitVec.toNat_mul, BitVec.toNat_ofNat]
    omega
  clear hD
  pointwise []
  rw [show Scalar.select (IntOp.cmpi .eq 4#32 0#32) 1#32 4#32 = 4#32 from by decide, show Scalar.select (IntOp.cmpi .eq 16#32 0#32) 1#32 16#32 = 16#32 from by decide]
  exact bands (by omega) (by omega) hd

end Cert.KernelIdeal.Attn

end
-- ==== Proof.Attn.Point.lean ====
/- The blocks the kernel's points read and store. -/
module

public import proofs.«01_k».proof.Proof.Attn.Stored
public import proofs.«01_k».proof.Proof.Attn.Loop
public import proofs.«01_k».proof.Proof.Attn.Tables
public import Idealize.ShloMosaic.Lib.Pipeline.ValueKit.Point

@[expose] public section

set_option maxRecDepth 16384

noncomputable section

namespace Cert.KernelIdeal.Attn

open Cert.KernelIdeal.Gen Cert.Attn
open Idealize.ShloMosaic Idealize.ShloMosaic.TcCoe Idealize.ShloMosaic.Tactic
open Idealize.SL.Sem

variable (m : (ℓ : Loc nD τ sig) → Buf (Elt Ideal) ℓ) (c : Dev nD)

/-! ## Which blocks a point reads -/

theorem idx0 : ∀ i : grid0.Coords, cc0_transform_0 i = ![(i 0).val, 0, (i 1).val] := by decide +kernel
theorem idx1 : ∀ i : grid0.Coords, cc0_transform_1 i = ![(i 0).val, 0, 4 + (i 1).val] := by decide +kernel
theorem idx2 : ∀ i : grid0.Coords, cc0_transform_2 i = ![(i 0).val, 0, 8 + (i 1).val] := by decide +kernel
theorem idx3 : ∀ i : grid0.Coords, cc0_transform_3 i = ![0, 0] := by decide +kernel
theorem idx4 : ∀ i : grid0.Coords, cc0_transform_4 i = ![0, 0] := by decide +kernel
theorem idx5 : ∀ i : grid0.Coords, cc0_transform_5 i = ![0, 0, 0] := by decide +kernel
theorem idx6 : ∀ i : grid0.Coords, cc0_transform_6 i = ![(i 0).val, (i 2).val, (i 1).val] := by decide +kernel

/-- The layer's projections the run is given. -/
abbrev Z : Vec Ideal S16x2048x2560 .f32 := m ((c : Thread nD τ).loc main_arg0)

/-- The row of the batch, the pair of heads and the block of queries of a point. -/
def bat (t : Fin cfg0.N) : Fin 16 := grid0.coords t 0
def pair (t : Fin cfg0.N) : Fin 4 := grid0.coords t 1
def rows (t : Fin cfg0.N) : Fin 8 := grid0.coords t 2

theorem pairLt (j : Fin 4) (l : Fin 128) (s : ℕ) (hs : s ≤ 8) : 128 * (s + j.val) + l.val < 2560 := by omega

/-- A query block: a pair of heads of one row of the batch. -/
theorem queries_at (t : Fin cfg0.N) (s : Fin 2048) (l : Fin 128) :
    iblk m c 0 t (ix3 0 s l) = Z m c (ix3 (bat t) s ⟨128 * (0 + (pair t).val) + l.val, pairLt _ _ 0 (by decide)⟩) := by
  have h0 : win0_0.index t 0 = (bat t).val := congrFun (idx0 (grid0.coords t)) 0
  have h1 : win0_0.index t 1 = 0 := congrFun (idx0 (grid0.coords t)) 1
  have h2 : win0_0.index t 2 = 0 + (pair t).val := (congrFun (idx0 (grid0.coords t)) 2).trans (Nat.zero_add _).symm
  blk_ext [iblk, V]
  all_goals omega

/-- A key block. -/
theorem keys_at (t : Fin cfg0.N) (s : Fin 2048) (l : Fin 128) :
    iblk m c 1 t (ix3 0 s l) = Z m c (ix3 (bat t) s ⟨128 * (4 + (pair t).val) + l.val, pairLt _ _ 4 (by decide)⟩) := by
  have h0 : win0_1.index t 0 = (bat t).val := congrFun (idx1 (grid0.coords t)) 0
  have h1 : win0_1.index t 1 = 0 := congrFun (idx1 (grid0.coords t)) 1
  have h2 : win0_1.index t 2 = 4 + (pair t).val := congrFun (idx1 (grid0.coords t)) 2
  blk_ext [iblk, V]
  all_goals omega

/-- A value block. -/
theorem values_at (t : Fin cfg0.N) (s : Fin 2048) (l : Fin 128) :
    iblk m c 2 t (ix3 0 s l) = Z m c (ix3 (bat t) s ⟨128 * (8 + (pair t).val) + l.val, pairLt _ _ 8 (by decide)⟩) := by
  have h0 : win0_2.index t 0 = (bat t).val := congrFun (idx2 (grid0.coords t)) 0
  have h1 : win0_2.index t 1 = 0 := congrFun (idx2 (grid0.coords t)) 1
  have h2 : win0_2.index t 2 = 8 + (pair t).val := congrFun (idx2 (grid0.coords t)) 2
  blk_ext [iblk, V]
  all_goals omega

/-- The table of cosines, whole at every point. -/
theorem cosines_at (t : Fin cfg0.N) (s : Fin 2048) (l : Fin 128) : iblk m c 3 t (ix2 s l) = (cosAt s.val (l.val % 32) : EReal) := by
  have h0 : win0_3.index t 0 = 0 := congrFun (idx3 (grid0.coords t)) 0
  have h1 : win0_3.index t 1 = 0 := congrFun (idx3 (grid0.coords t)) 1
  rw [← cos_at m c]
  blk_ext [iblk]
  all_goals omega

/-- The table of sines. -/
theorem sines_at (t : Fin cfg0.N) (s : Fin 2048) (l : Fin 128) : iblk m c 4 t (ix2 s l) = (sinAt s.val (l.val % 32) : EReal) := by
  have h0 : win0_4.index t 0 = 0 := congrFun (idx4 (grid0.coords t)) 0
  have h1 : win0_4.index t 1 = 0 := congrFun (idx4 (grid0.coords t)) 1
  rw [← sin_at m c]
  blk_ext [iblk]
  all_goals omega

/-- The table of multiplicities, whole at every point. -/
theorem mults_at (t : Fin cfg0.N) (b : Fin 8) (r : Fin 256) (x : Fin 512) :
    iblk m c 5 t (ix3 b r x) = (((mult (256 * b.val + r.val) x.val : ℕ) : ℝ) : EReal) := by
  have h0 : win0_5.index t 0 = 0 := congrFun (idx5 (grid0.coords t)) 0
  have h1 : win0_5.index t 1 = 0 := congrFun (idx5 (grid0.coords t)) 1
  have h2 : win0_5.index t 2 = 0 := congrFun (idx5 (grid0.coords t)) 2
  rw [← w_at m c]
  blk_ext [iblk]
  all_goals omega

/-! ## What a point stores -/

/-- What the scratch holds, by the blocks the run's first point reads. -/
theorem scr0_eq (t : Fin cfg0.N) : scr0 m c t = k0_pay9 (iblk m c 3 (base t)) (iblk m c 4 (base t)) (iblk m c 0 (base t)) :=
  storedA_0 c (grid0.coords (base t)) (ms0_0 (base t)) (hs0_0 (base t)) (ms0_1 (base t)) (hs0_1 (base t)) (ms0_2 (base t)) (hs0_2 (base t)) (ms0_3 (base t)) (hs0_3 (base t))
    (ms0_4 (base t)) (hs0_4 (base t)) (ms0_5 (base t)) (hs0_5 (base t)) (ms0_6 (base t)) (hs0_6 (base t)) scM0_0 (Memref.isWhole_whole _) scM0_1 (Memref.isWhole_whole _)
    scM0_2 (Memref.isWhole_whole _) scM0_3 (Memref.isWhole_whole _) scM0_4 (Memref.isWhole_whole _) (first_of (base t) (base_mod t))
    (iblk m c 0 (base t)) (iblk m c 1 (base t)) (iblk m c 2 (base t)) (iblk m c 3 (base t)) (iblk m c 4 (base t)) (iblk m c 5 (base t))
theorem scr1_eq (t : Fin cfg0.N) : scr1 m c t = k0_pay10 (iblk m c 3 (base t)) (iblk m c 4 (base t)) (iblk m c 0 (base t)) :=
  storedA_1 c (grid0.coords (base t)) (ms0_0 (base t)) (hs0_0 (base t)) (ms0_1 (base t)) (hs0_1 (base t)) (ms0_2 (base t)) (hs0_2 (base t)) (ms0_3 (base t)) (hs0_3 (base t))
    (ms0_4 (base t)) (hs0_4 (base t)) (ms0_5 (base t)) (hs0_5 (base t)) (ms0_6 (base t)) (hs0_6 (base t)) scM0_0 (Memref.isWhole_whole _) scM0_1 (Memref.isWhole_whole _)
    scM0_2 (Memref.isWhole_whole _) scM0_3 (Memref.isWhole_whole _) scM0_4 (Memref.isWhole_whole _) (first_of (base t) (base_mod t))
    (iblk m c 0 (base t)) (iblk m c 1 (base t)) (iblk m c 2 (base t)) (iblk m c 3 (base t)) (iblk m c 4 (base t)) (iblk m c 5 (base t))
theorem scr2_eq (t : Fin cfg0.N) : scr2 m c t = k0_pay29 k0_pay4 (k0_pay5 (iblk m c 3 (base t))) (k0_pay6 (iblk m c 4 (base t))) (iblk m c 1 (base t)) :=
  storedA_2 c (grid0.coords (base t)) (ms0_0 (base t)) (hs0_0 (base t)) (ms0_1 (base t)) (hs0_1 (base t)) (ms0_2 (base t)) (hs0_2 (base t)) (ms0_3 (base t)) (hs0_3 (base t))
    (ms0_4 (base t)) (hs0_4 (base t)) (ms0_5 (base t)) (hs0_5 (base t)) (ms0_6 (base t)) (hs0_6 (base t)) scM0_0 (Memref.isWhole_whole _) scM0_1 (Memref.isWhole_whole _)
    scM0_2 (Memref.isWhole_whole _) scM0_3 (Memref.isWhole_whole _) scM0_4 (Memref.isWhole_whole _) (first_of (base t) (base_mod t))
    (iblk m c 0 (base t)) (iblk m c 1 (base t)) (iblk m c 2 (base t)) (iblk m c 3 (base t)) (iblk m c 4 (base t)) (iblk m c 5 (base t))
theorem scr3_eq (t : Fin cfg0.N) : scr3 m c t = k0_pay31 k0_pay7 (iblk m c 2 (base t)) :=
  storedA_3 c (grid0.coords (base t)) (ms0_0 (base t)) (hs0_0 (base t)) (ms0_1 (base t)) (hs0_1 (base t)) (ms0_2 (base t)) (hs0_2 (base t)) (ms0_3 (base t)) (hs0_3 (base t))
    (ms0_4 (base t)) (hs0_4 (base t)) (ms0_5 (base t)) (hs0_5 (base t)) (ms0_6 (base t)) (hs0_6 (base t)) scM0_0 (Memref.isWhole_whole _) scM0_1 (Memref.isWhole_whole _)
    scM0_2 (Memref.isWhole_whole _) scM0_3 (Memref.isWhole_whole _) scM0_4 (Memref.isWhole_whole _) (first_of (base t) (base_mod t))
    (iblk m c 0 (base t)) (iblk m c 1 (base t)) (iblk m c 2 (base t)) (iblk m c 3 (base t)) (iblk m c 4 (base t)) (iblk m c 5 (base t))
theorem scr4_eq (t : Fin cfg0.N) : scr4 m c t = k0_pay32 k0_pay7 (iblk m c 2 (base t)) :=
  storedA_4 c (grid0.coords (base t)) (ms0_0 (base t)) (hs0_0 (base t)) (ms0_1 (base t)) (hs0_1 (base t)) (ms0_2 (base t)) (hs0_2 (base t)) (ms0_3 (base t)) (hs0_3 (base t))
    (ms0_4 (base t)) (hs0_4 (base t)) (ms0_5 (base t)) (hs0_5 (base t)) (ms0_6 (base t)) (hs0_6 (base t)) scM0_0 (Memref.isWhole_whole _) scM0_1 (Memref.isWhole_whole _)
    scM0_2 (Memref.isWhole_whole _) scM0_3 (Memref.isWhole_whole _) scM0_4 (Memref.isWhole_whole _) (first_of (base t) (base_mod t))
    (iblk m c 0 (base t)) (iblk m c 1 (base t)) (iblk m c 2 (base t)) (iblk m c 3 (base t)) (iblk m c 4 (base t)) (iblk m c 5 (base t))

/-- A point stores the block made of the scratch its run's first point filled. -/
theorem outBlk_eq (t : Fin cfg0.N) : outBlk m c t = block (grid0.coords t)
    (k0_pay9 (iblk m c 3 (base t)) (iblk m c 4 (base t)) (iblk m c 0 (base t))) (k0_pay10 (iblk m c 3 (base t)) (iblk m c 4 (base t)) (iblk m c 0 (base t)))
    (iblk m c 5 t) (k0_pay29 k0_pay4 (k0_pay5 (iblk m c 3 (base t))) (k0_pay6 (iblk m c 4 (base t))) (iblk m c 1 (base t)))
    (k0_pay31 k0_pay7 (iblk m c 2 (base t))) (k0_pay32 k0_pay7 (iblk m c 2 (base t))) := by
  by_cases h : t.val % 8 = 0
  · rw [outBlk_first m c t h]
    refine (storedA c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) scM0_1 (Memref.isWhole_whole _)
      scM0_2 (Memref.isWhole_whole _) scM0_3 (Memref.isWhole_whole _) scM0_4 (Memref.isWhole_whole _) (first_of t h)
      (iblk m c 0 t) (iblk m c 1 t) (iblk m c 2 t) (iblk m c 3 t) (iblk m c 4 t) (iblk m c 5 t)).trans ?_
    rw [base_of_first t h]
  · rw [outBlk_other m c t h]
    refine (storedB c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) scM0_1 (Memref.isWhole_whole _)
      scM0_2 (Memref.isWhole_whole _) scM0_3 (Memref.isWhole_whole _) scM0_4 (Memref.isWhole_whole _) (not_first_of t h)
      (iblk m c 0 t) (iblk m c 1 t) (iblk m c 2 t) (iblk m c 3 t) (iblk m c 4 t) (iblk m c 5 t)
      (scr0 m c t) (scr1 m c t) (scr2 m c t) (scr3 m c t) (scr4 m c t)).trans ?_
    rw [scr0_eq, scr1_eq, scr2_eq, scr3_eq, scr4_eq]

/-- Row `b` of the batch: its projections as reals, and the tables. -/
def given (z : Vec Ideal S16x2048x2560 .f32) (b : Fin 16) : Given where
  z t j := (z (ix3 b ⟨t % 2048, Nat.mod_lt _ (by decide)⟩ ⟨j % 2560, Nat.mod_lt _ (by decide)⟩)).toReal
  C := cosAt
  S := sinAt

/-- Every projection is a real number. -/
def AllReal (z : Vec Ideal S16x2048x2560 .f32) : Prop := ∀ i, z i = ((z i).toReal : EReal)

theorem given_z {z : Vec Ideal S16x2048x2560 .f32} (hz : AllReal z) (b : Fin 16) (t : Fin 2048) (j : Fin 2560) :
    z (ix3 b t j) = ((given z b).z t.val j.val : EReal) := by
  rw [hz]
  show _ = (((z (ix3 b ⟨t.val % 2048, _⟩ ⟨j.val % 2560, _⟩)).toReal : ℝ) : EReal)
  simp only [Nat.mod_eq_of_lt t.isLt, Nat.mod_eq_of_lt j.isLt]

theorem base_coords (t : Fin cfg0.N) : bat (base t) = bat t ∧ pair (base t) = pair t := by
  have h0 : ∀ t : Fin cfg0.N, (bat t).val = t.val / 32 % 16 := fun t => Pipeline.Grid.coords_val t 0 (by decide) rfl
  have h1 : ∀ t : Fin cfg0.N, (pair t).val = t.val / 8 % 4 := fun t => Pipeline.Grid.coords_val t 1 (by decide) rfl
  have hb : (base t).val = t.val / 8 * 8 := rfl
  constructor
  · exact Fin.ext (by rw [h0, h0, hb]; omega)
  · exact Fin.ext (by rw [h1, h1, hb]; omega)

/-- A column of a head of a pair, turned: the same in the pair's own columns. -/
theorem rope_pair (x C S : ℕ → ℝ) (j l o : ℕ) : ropeAt (fun c => x (128 * (o + j) + c)) C S l = ropeAt (fun c => x (128 * o + c)) C S (128 * j + l) := by
  rw [show 128 * j + l = 64 * (2 * j) + l by omega, ropeAt_shift]
  congr 1
  funext c
  congr 1
  omega

theorem holds (hz : AllReal (Z m c)) (t : Fin cfg0.N) : Holds (given (Z m c) (bat t)) (pair t).val
    (k0_pay9 (iblk m c 3 (base t)) (iblk m c 4 (base t)) (iblk m c 0 (base t))) (k0_pay10 (iblk m c 3 (base t)) (iblk m c 4 (base t)) (iblk m c 0 (base t)))
    (iblk m c 5 t) (k0_pay29 k0_pay4 (k0_pay5 (iblk m c 3 (base t))) (k0_pay6 (iblk m c 4 (base t))) (iblk m c 1 (base t)))
    (k0_pay31 k0_pay7 (iblk m c 2 (base t))) (k0_pay32 k0_pay7 (iblk m c 2 (base t))) := by
  obtain ⟨e0, e1⟩ := base_coords t
  have hq : ∀ (s : Fin 2048) (l : Fin 128), iblk m c 0 (base t) (ix3 0 s l)
      = ((given (Z m c) (bat t)).z s.val (128 * (0 + (pair t).val) + l.val) : EReal) := fun s l => by
    rw [queries_at, given_z hz, e0, e1]
  have hk : ∀ (s : Fin 2048) (l : Fin 128), iblk m c 1 (base t) (ix3 0 s l)
      = ((given (Z m c) (bat t)).z s.val (128 * (4 + (pair t).val) + l.val) : EReal) := fun s l => by
    rw [keys_at, given_z hz, e0, e1]
  have hv : ∀ (s : Fin 2048) (l : Fin 128), iblk m c 2 (base t) (ix3 0 s l)
      = ((given (Z m c) (bat t)).z s.val (128 * (8 + (pair t).val) + l.val) : EReal) := fun s l => by
    rw [values_at, given_z hz, e0, e1]
  have hC := fun (s : Fin 2048) (l : Fin 128) => cosines_at m c (base t) s l
  have hS := fun (s : Fin 2048) (l : Fin 128) => sines_at m c (base t) s l
  refine ⟨fun s l => ?_, fun s l => ?_, fun u l => ?_, fun u l => ?_, fun u l => ?_, fun b r x => mults_at m c t b r x⟩
  · rw [query0_at _ _ _ s l (fun e => (given (Z m c) (bat t)).z s.val (128 * (0 + (pair t).val) + e)) _ _ (hq s) (hC s) (hS s), rope_pair]
    simp only [Given.q, Nat.mul_zero, Nat.zero_add]; rfl
  · rw [query1_at _ _ _ s l (fun e => (given (Z m c) (bat t)).z s.val (128 * (0 + (pair t).val) + e)) _ _ (hq s) (hC s) (hS s), rope_pair]
    simp only [Given.q, Nat.mul_zero, Nat.zero_add]; rfl
  · rw [key_at _ _ _ u l (fun e => (given (Z m c) (bat t)).z u.val (128 * (4 + (pair t).val) + e)) _ _ (hk u) (hC u) (hS u), rope_pair]
    rfl
  · rw [value0_at _ u l (fun e => (given (Z m c) (bat t)).z u.val (128 * (8 + (pair t).val) + e)) (hv u)]
    simp only [Given.v, show 128 * (8 + (pair t).val) + l.val = 1024 + (128 * (pair t).val + l.val) by omega]
  · rw [value1_at _ u l (fun e => (given (Z m c) (bat t)).z u.val (128 * (8 + (pair t).val) + e)) (hv u)]
    simp only [Given.v, show 128 * (8 + (pair t).val) + l.val = 1024 + (128 * (pair t).val + l.val) by omega]

/-- What a point stores: the attention at its positions and columns. -/
theorem outBlk_at (hz : AllReal (Z m c)) (t : Fin cfg0.N) (r : Fin 256) (l : Fin 128) : outBlk m c t (ix3 0 r l)
    = (((given (Z m c) (bat t)).out (256 * (rows t).val + r.val) (128 * (pair t).val + l.val) : ℝ) : EReal) := by
  rw [outBlk_eq]
  exact block_at (holds m c hz t) (grid0.coords t) r l

end Cert.KernelIdeal.Attn

end
-- ==== Proof.Attn.Pre.lean ====
/- The precondition says that every projection is a real number. -/
module

public import proofs.«01_k».proof.Defs
public import proofs.«01_k».proof.Proof.Attn.Point
public import Idealize.ShloMosaic.Lib.ReduceAll

@[expose] public section

set_option maxRecDepth 16384

noncomputable section

namespace Cert.Attn

open Idealize.ShloMosaic Idealize.ShloMosaic.Tactic

/-- The side conditions of the precondition's own operations. -/
theorem pre_facts : Cert.Pre_all_finite.Facts where
  bcast_S_S16x2048x2560 := by decide
  reducesTo_S16x2048x2560_S_d0_1_2 := by decide
  h_S_ := by decide

/-- A number whose absolute value is below infinity is a real. -/
theorem real_of_abs_lt {x : EReal} (h : max x (-x) < ⊤) : x = (x.toReal : EReal) := by
  induction x using EReal.rec with
  | bot => simp at h
  | coe r => rfl
  | top => simp at h

theorem all_real [Cert.Pre_all_finite.Facts] (z : FVec Ideal Cert.Pre_all_finite.S16x2048x2560 .f32)
    (h : Cert.Pre_all_finite.fn (F := Ideal) z = fun _ => 1#1) : Cert.KernelIdeal.Attn.AllReal z := by
  intro i
  unfold Cert.Pre_all_finite.fn at h
  haveI : Subsingleton Cert.Pre_all_finite.S_.Idx := ⟨fun a b => funext fun k => k.elim0⟩
  have h1 := Host.reduce_andi_all _ _ _ _ _ (congrFun h ValueIdx.ix0) i
  have h2 : BitVec.ofBool (decide (max (z i) (-z i) < Ideal.ofBits .f32 0x7F800000#32)) = 1#1 := h1
  have h3 : Ideal.ofBits .f32 0x7F800000#32 = ⊤ := by simp [Ideal.ofBits, Ideal.ieee]
  rw [h3] at h2
  refine real_of_abs_lt ?_
  by_contra hn
  rw [decide_eq_false hn] at h2
  exact absurd h2 (by decide)

end Cert.Attn

end
-- ==== Proof.Attn.Array.lean ====
/- The kernel's array after its grid: the attention, entry by entry. -/
module

public import proofs.«01_k».proof.Proof.Attn.Point
public import Idealize.ShloMosaic.Lib.Pipeline.Covers

@[expose] public section

set_option maxRecDepth 16384

noncomputable section

namespace Cert.KernelIdeal.Attn

open Cert.KernelIdeal.Gen Cert.Attn
open Idealize.ShloMosaic Idealize.ShloMosaic.TcCoe Idealize.ShloMosaic.Tactic
open Idealize.SL.Sem

/-- The attention of the projections `z`: entry `(b, t, j)`. -/
def attention (z : Vec Ideal S16x2048x2560 .f32) : Vec Ideal S16x2048x512 .f32 :=
  fun i => (((given z (i 0)).out (i 1).val (i 2).val : ℝ) : EReal)

variable (m : (ℓ : Loc nD τ sig) → Buf (Elt Ideal) ℓ) (c : Dev nD)

/-- The blocks cover the array. -/
theorem covered : (cfg0.win 6).Covers :=
  (cfg0.win 6).covers_of_indexMap_surj rfl (by decide) fun β => by
    have l0 : (β 0).val < 16 := (β 0).isLt
    have l1 : (β 1).val < 8 := (β 1).isLt
    have l2 : (β 2).val < 4 := (β 2).isLt
    let i : grid0.Coords := fun a => match a with
      | ⟨0, _⟩ => ⟨(β 0).val, l0⟩
      | ⟨1, _⟩ => ⟨(β 2).val, l2⟩
      | ⟨2, _⟩ => ⟨(β 1).val, l1⟩
    have h := idx6 i
    refine ⟨i, fun a => ?_⟩
    refine (congrFun h a).trans ?_
    match a with
    | ⟨0, _⟩ => rfl
    | ⟨1, _⟩ => rfl
    | ⟨2, _⟩ => rfl

theorem attention_at (z : Vec Ideal S16x2048x2560 .f32) (b : Fin 16) (t : Fin 2048) (j : Fin 512) :
    attention z (ix3 b t j) = (((given z b).out t.val j.val : ℝ) : EReal) := rfl

/-- The array after the grid is the attention of the projections. -/
theorem array (hz : AllReal (Z m c)) : (dats m 0 c).arrAt 6 cfg0.N = attention (Z m c) :=
  (dats m 0 c).arrAt_eq_of_covers 6 _ covered fun t hf y => by
    rw [after_6]
    obtain ⟨r, l, rfl⟩ : ∃ (r : Fin 256) (l : Fin 128), y = ix3 0 r l := ⟨y 1, y 2, by
      funext a
      match a with
      | ⟨0, _⟩ => exact Subsingleton.elim (α := Fin 1) _ _
      | ⟨1, _⟩ => rfl
      | ⟨2, _⟩ => rfl⟩
    refine (outBlk_at m c hz t r l).trans ?_
    have hr := (rows t).isLt
    have hp := (pair t).isLt
    have h0 : win0_6.index t 0 = (bat t).val := congrFun (idx6 (grid0.coords t)) 0
    have h1 : win0_6.index t 1 = (rows t).val := congrFun (idx6 (grid0.coords t)) 1
    have h2 : win0_6.index t 2 = (pair t).val := congrFun (idx6 (grid0.coords t)) 2
    refine (attention_at (Z m c) (bat t) ⟨256 * (rows t).val + r.val, by omega⟩ ⟨128 * (pair t).val + l.val, by omega⟩).symm.trans ?_
    generalize attention (Z m c) = X
    blk_ext [iblk]
    all_goals omega

variable (ρ : Dev nD → PrngReg)

/-- The kernel's run, from real projections, leaves the attention in its result and its argument as it was. -/
theorem run_attention (hz : ∀ c, AllReal (Z m c)) : θ_run defs (onTc (τ := τ) (main (F := Ideal))) ⟨m, fun _ => 0, ρ⟩ (fun r => ∀ c : Dev nD,
      r.2.mem ((c.tc : Thread nD τ).loc main_v70) = attention (Z m c)
      ∧ r.2.mem ((c.tc : Thread nD τ).loc main_arg0) = m ((c.tc : Thread nD τ).loc main_arg0)) :=
  (θ_run defs _ _).mono (fun _ h c => ⟨(h c).1.trans (array m c (hz c)), (h c).2⟩) (run_array m ρ)

end Cert.KernelIdeal.Attn

end
-- ==== Proof.Attn.RefRot.lean ====
/- The reference's queries, keys and values, entry by entry. -/
module

public import proofs.«01_k».proof.Proof.Gen.ReferenceIdeal.Run
public import proofs.«01_k».proof.Proof.Attn.Angle
public import proofs.«01_k».proof.Proof.Attn.Spec
public import Idealize.ShloMosaic.Lib.Claim
public import Idealize.ShloMosaic.Lib.Pointwise
public import Idealize.ShloMosaic.Lib.Tactic.CleanTypes

@[expose] public section

set_option maxRecDepth 16384

noncomputable section

namespace Cert.ReferenceIdeal.Attn

open Cert.ReferenceIdeal.Gen Cert.ReferenceIdeal.Value Cert.Attn
open Idealize.ShloMosaic Idealize.ShloMosaic.TcCoe Idealize.ShloMosaic.Tactic Idealize.ShloMosaic.StableHlo
open Idealize.SL.Sem

variable (V0 : Valuation τ sig (Elt Ideal)) (g : Fin 16 → Given)

/-- The projections. -/
abbrev Z : Vec Ideal S16x2048x2560 .f32 := V0 (Proc.devRef .tc main_arg0)

/-- The projections are the reals `g` and its tables those of the angles. -/
structure Reads (z : Vec Ideal S16x2048x2560 .f32) (g : Fin 16 → Given) : Prop where
  z : ∀ (b : Fin 16) (t : Fin 2048) (j : Fin 2560), z (ix3 b t j) = (((g b).z t.val j.val : ℝ) : EReal)
  C : ∀ b, (g b).C = cosAt
  S : ∀ b, (g b).S = sinAt

theorem z_word (R : Reads (Z V0) g) (b t j : ℕ) (hb : b < 16) (ht : t < 2048) (hj : j < 2560) :
    V0 (Proc.devRef .tc main_arg0) (ix3 (⟨b, hb⟩ : Fin 16) (⟨t, ht⟩ : Fin 2048) (⟨j, hj⟩ : Fin 2560)) = (((g ⟨b, hb⟩).z t j : ℝ) : EReal) :=
  R.z ⟨b, hb⟩ ⟨t, ht⟩ ⟨j, hj⟩

theorem cos_word (t j : ℕ) : Ideal.cos (FloatOps.sitofp (F := Ideal) FTy.f32 (BitVec.ofNat 32 t) *
              Ideal.pow (Ideal.ofBits FTy.f32 1176256512#32)
                (Ideal.div (Ideal.ofBits FTy.f32 3221225472#32 * FloatOps.sitofp (F := Ideal) FTy.f32 (BitVec.ofNat 32 j))
                  (Ideal.ofBits FTy.f32 1115684864#32))) = (cosAt t j : EReal) := cos_angle t j

theorem sin_word (t j : ℕ) : Ideal.sin (FloatOps.sitofp (F := Ideal) FTy.f32 (BitVec.ofNat 32 t) *
              Ideal.pow (Ideal.ofBits FTy.f32 1176256512#32)
                (Ideal.div (Ideal.ofBits FTy.f32 3221225472#32 * FloatOps.sitofp (F := Ideal) FTy.f32 (BitVec.ofNat 32 j))
                  (Ideal.ofBits FTy.f32 1115684864#32))) = (sinAt t j : EReal) := sin_angle t j

/-- The rotation of column `64 h + d`, its two columns named from the head's first. -/
theorem turn_q (G : Given) (hC : G.C = cosAt) (hS : G.S = sinAt) (h t d : ℕ) (hd : d < 64) :
    (if h_1 : d < 32 then ((G.z t (h * 64 + d) * cosAt t d - G.z t (h * 64 + (32 + d)) * sinAt t d : ℝ) : EReal)
      else ((G.z t (h * 64 + (32 + (d - 32))) * cosAt t (d - 32) + G.z t (h * 64 + (d - 32)) * sinAt t (d - 32) : ℝ) : EReal))
      = ((G.q t (64 * h + d) : ℝ) : EReal) := by
  unfold Given.q
  rw [ropeAt_shift, hC, hS]
  unfold ropeAt
  beta_reduce
  by_cases hc : d < 32
  · rw [dif_pos hc, if_pos (by omega), show d % 32 = d by omega]
    rw [show h * 64 + (32 + d) = 64 * h + (d + 32) by omega, show h * 64 + d = 64 * h + d by omega]
  · rw [dif_neg hc, if_neg (by omega), show d % 32 = d - 32 by omega]
    rw [show h * 64 + (32 + (d - 32)) = 64 * h + d by omega, show h * 64 + (d - 32) = 64 * h + (d - 32) by omega]

/-- The rotation of column `64 h + d`, its two columns named from the head's first. -/
theorem turn_k (G : Given) (hC : G.C = cosAt) (hS : G.S = sinAt) (h t d : ℕ) (hd : d < 64) :
    (if h_1 : d < 32 then ((G.z t (512 + (h * 64 + d)) * cosAt t d - G.z t (512 + (h * 64 + (32 + d))) * sinAt t d : ℝ) : EReal)
      else ((G.z t (512 + (h * 64 + (32 + (d - 32)))) * cosAt t (d - 32) + G.z t (512 + (h * 64 + (d - 32))) * sinAt t (d - 32) : ℝ) : EReal))
      = ((G.k t (64 * h + d) : ℝ) : EReal) := by
  unfold Given.k
  rw [ropeAt_shift, hC, hS]
  unfold ropeAt
  beta_reduce
  by_cases hc : d < 32
  · rw [dif_pos hc, if_pos (by omega), show d % 32 = d by omega]
    rw [show h * 64 + (32 + d) = 64 * h + (d + 32) by omega, show h * 64 + d = 64 * h + d by omega]
  · rw [dif_neg hc, if_neg (by omega), show d % 32 = d - 32 by omega]
    rw [show h * 64 + (32 + (d - 32)) = 64 * h + d by omega, show h * 64 + (d - 32) = 64 * h + (d - 32) by omega]

/-- The rotated queries, by batch row, head, position and lane. -/
theorem query_at (R : Reads (Z V0) g) (b : Fin 16) (h : Fin 8) (t : Fin 2048) (d : Fin 64) :
    (res_main_v35 V0 : Vec Ideal S16x8x2048x64 .f32) (ix4 b h t d) = (((g b).q t.val (64 * h.val + d.val) : ℝ) : EReal) := by
  obtain ⟨b, hb⟩ := b; obtain ⟨h, hh⟩ := h; obtain ⟨t, ht⟩ := t; obtain ⟨d, hd⟩ := d
  unfold res_main_v35
  clean_types
  pointwise [res_main_v22, res_main_v23, res_main_v19, res_main_v21, res_main_v5, res_main_v17, res_main_v4]
  simp only [cos_word, sin_word]
  simp only [z_word V0 g R, ← EReal.coe_mul, ← EReal.coe_add, ← EReal.coe_sub]
  exact turn_q (g ⟨b, hb⟩) (R.C _) (R.S _) h t d hd

/-- The rotated keys. -/
theorem key_at (R : Reads (Z V0) g) (b : Fin 16) (h : Fin 8) (t : Fin 2048) (d : Fin 64) :
    (res_main_v66 V0 : Vec Ideal S16x8x2048x64 .f32) (ix4 b h t d) = (((g b).k t.val (64 * h.val + d.val) : ℝ) : EReal) := by
  obtain ⟨b, hb⟩ := b; obtain ⟨h, hh⟩ := h; obtain ⟨t, ht⟩ := t; obtain ⟨d, hd⟩ := d
  unfold res_main_v66
  clean_types
  pointwise [res_main_v53, res_main_v54, res_main_v50, res_main_v52, res_main_v36, res_main_v48, res_main_v4]
  simp only [cos_word, sin_word]
  simp only [z_word V0 g R, ← EReal.coe_mul, ← EReal.coe_add, ← EReal.coe_sub]
  exact turn_k (g ⟨b, hb⟩) (R.C _) (R.S _) h t d hd

/-- The values. -/
theorem value_at (R : Reads (Z V0) g) (b : Fin 16) (h : Fin 8) (t : Fin 2048) (d : Fin 64) :
    (res_main_v68 V0 : Vec Ideal S16x8x2048x64 .f32) (ix4 b h t d) = (((g b).v t.val (64 * h.val + d.val) : ℝ) : EReal) := by
  obtain ⟨b, hb⟩ := b; obtain ⟨h, hh⟩ := h; obtain ⟨t, ht⟩ := t; obtain ⟨d, hd⟩ := d
  unfold res_main_v68
  clean_types
  pointwise []
  simp only [z_word V0 g R]
  unfold Given.v
  congr 2
  omega

/-- The gather of a branch: the entry at the position its table of positions holds. -/
theorem gather_at (X : Vec Ideal S16x8x2048x64 .f32) (P : IVec S2048x129 32) (b : Fin 16) (h : Fin 8) (t : Fin 2048) (l : Fin 129) (d : Fin 64)
    (u : Fin 2048) (hu : (P (ix2 t l)).toInt.toNat = u.val) :
    (Host.gather gather_S16x8x2048x64_S2048x129x1_S16x8x2048x129x64_014_2_n_n_2_2_168164 X (broadcastInDim S2048x129x1 ![0, 1] bcast_S2048x129_S2048x129x1_0_1 P) : Vec Ideal S16x8x2048x129x64 .f32) (ix5 b h t l d) = X (ix4 b h u d) := by
  unfold Host.gather
  refine congrArg X (funext fun a => Fin.ext ?_)
  generalize hD : gather_S16x8x2048x64_S2048x129x1_S16x8x2048x129x64_014_2_n_n_2_2_168164 = D
  have hcoll : D.collapsedSliceDims = [2] := by rw [← hD]; rfl
  have hob : D.operandBatchingDims = [] := by rw [← hD]; rfl
  have hsm : D.startIndexMap = [2] := by rw [← hD]; rfl
  show D.start (ix5 b h t l d) (broadcastInDim S2048x129x1 ![0, 1] bcast_S2048x129_S2048x129x1_0_1 P) a + D.batchCoord (ix5 b h t l d) a + D.offCoord (ix5 b h t l d) a = _
  rw [D.batchCoord_eq_zero _ _ (by rw [hob]; exact List.not_mem_nil), Nat.add_zero]
  have ha : a = (0 : Fin 4) ∨ a = (1 : Fin 4) ∨ a = (3 : Fin 4) ∨ a = (2 : Fin 4) := by
    match a with
    | ⟨0, _⟩ => exact Or.inl rfl
    | ⟨1, _⟩ => exact Or.inr (Or.inl rfl)
    | ⟨2, _⟩ => exact Or.inr (Or.inr (Or.inr rfl))
    | ⟨3, _⟩ => exact Or.inr (Or.inr (Or.inl rfl))
  rcases ha with rfl | rfl | rfl | rfl
  · subst hD
    unfold GatherDims.start GatherDims.offCoord
    rw [dif_neg (by decide), dif_pos (by decide)]
    exact Nat.zero_add _
  · subst hD
    unfold GatherDims.start GatherDims.offCoord
    rw [dif_neg (by decide), dif_pos (by decide)]
    exact Nat.zero_add _
  · subst hD
    unfold GatherDims.start GatherDims.offCoord
    rw [dif_neg (by decide), dif_pos (by decide)]
    exact Nat.zero_add _
  · rw [D.offCoord_eq_zero _ _ (fun h => ((D.mem_sKept _).mp h).1 (by rw [hcoll]; decide)), Nat.add_zero]
    subst hD
    unfold GatherDims.start
    rw [dif_pos (by decide)]
    show min (P _).toInt.toNat (2048 - 1) = u.val
    have hi : ∀ i, i = ix2 t l → min (P i).toInt.toNat (2048 - 1) = u.val := by
      rintro _ rfl
      rw [hu]; have := u.isLt; omega
    refine hi _ (funext fun e => Fin.ext ?_)
    match e with
    | ⟨0, _⟩ => rfl
    | ⟨1, _⟩ => rfl

end Cert.ReferenceIdeal.Attn

end
-- ==== Proof.Attn.RefSoft.lean ====
/- One branch's softmax over the keys it may see, and the mean of the branches by their sums of weights. -/
module

public import proofs.«01_k».proof.Proof.Attn.Real

@[expose] public section

noncomputable section

namespace Cert.Attn

open Idealize.ShloMosaic

/-- The maximum of reals and a bottom, a real among them or given, is a real. -/
theorem max_fold_masked {α : Type*} (s : Finset α) (f : α → EReal) (hf : ∀ x, f x = ⊥ ∨ ∃ r : ℝ, f x = r) (μ : ℝ) :
    ∃ ν : ℝ, max (μ : EReal) (s.fold max ⊥ f) = ν := by
  classical
  induction s using Finset.induction_on with
  | empty => exact ⟨μ, by simp⟩
  | insert a s ha ih =>
    obtain ⟨ν, hν⟩ := ih
    rw [Finset.fold_insert ha, max_left_comm, hν]
    rcases hf a with h | ⟨r, h⟩
    · exact ⟨ν, by simp [h]⟩
    · exact ⟨max r ν, by rw [h]; exact (EReal.coe_strictMono.monotone.map_max).symm⟩

variable {n : ℕ} (live : Fin n → Prop) [DecidablePred live] (x y : Fin n → ℝ) (s : Fin n → EReal)

/-- The sum of the weights of the keys a branch sees. -/
def den : ℝ := ∑ l, if live l then Real.exp (x l) else 0

/-- The weighted sum of the values of the keys a branch sees. -/
def num : ℝ := ∑ l, if live l then Real.exp (x l) * y l else 0

theorem den_pos {i : Fin n} (hi : live i) : 0 < den live x := by
  refine Finset.sum_pos' (fun l _ => ?_) ⟨i, Finset.mem_univ _, by rw [if_pos hi]; positivity⟩
  split <;> positivity

variable {live x s}

/-- A branch that sees a key has a real maximum. -/
theorem max_live (hs : ∀ l, s l = if live l then (x l : EReal) else ⊥) {i : Fin n} (hi : live i) :
    ∃ μ : ℝ, Finset.univ.fold max ⊥ s = μ := by
  obtain ⟨ν, hν⟩ := max_fold_masked Finset.univ s (fun l => by
    rw [hs l]; split
    · exact Or.inr ⟨_, rfl⟩
    · exact Or.inl rfl) (x i)
  refine ⟨ν, ?_⟩
  rw [← hν, max_eq_right]
  exact (Finset.le_fold_max _).mpr (Or.inr ⟨i, Finset.mem_univ _, by rw [hs i, if_pos hi]⟩)

/-- The weight of a key against the maximum. -/
theorem weight_live (hs : ∀ l, s l = if live l then (x l : EReal) else ⊥) (μ : ℝ) (l : Fin n) :
    Ideal.exp (s l - μ) = ((Real.exp (-μ) * (if live l then Real.exp (x l) else 0) : ℝ) : EReal) := by
  rw [hs l]
  split
  · rw [exp_sub_real, ← Real.exp_add, neg_add_eq_sub]
  · rw [EReal.bot_sub, mul_zero]; rfl

/-- The sum of the weights against the maximum. -/
theorem sum_live (hs : ∀ l, s l = if live l then (x l : EReal) else ⊥) (μ : ℝ) :
    ∑ l, Ideal.exp (s l - μ) = ((Real.exp (-μ) * den live x : ℝ) : EReal) := by
  simp only [weight_live hs μ]
  rw [← coe_sum, ← Finset.mul_sum]; rfl

/-- The maximum and the logarithm of the sum against it: the logarithm of the sum. -/
theorem lse_live (hs : ∀ l, s l = if live l then (x l : EReal) else ⊥) {i : Fin n} (hi : live i) :
    Finset.univ.fold max ⊥ s + Ideal.log (∑ l, Ideal.exp (s l - Finset.univ.fold max ⊥ s)) = ((Real.log (den live x) : ℝ) : EReal) := by
  obtain ⟨μ, hμ⟩ := max_live hs hi
  have hd := den_pos live x hi
  rw [hμ, sum_live hs μ]
  have hp : 0 < Real.exp (-μ) * den live x := by positivity
  have hl : Ideal.log ((Real.exp (-μ) * den live x : ℝ) : EReal) = ((Real.log (Real.exp (-μ) * den live x) : ℝ) : EReal) :=
    if_neg (not_le.mpr hp)
  rw [hl, Real.log_mul (Real.exp_ne_zero _) hd.ne', Real.log_exp, ← EReal.coe_add]
  congr 1; ring

/-- A branch's output: the weighted mean of the values it sees. -/
theorem mean_live (hs : ∀ l, s l = if live l then (x l : EReal) else ⊥) {i : Fin n} (hi : live i) :
    Ideal.div (∑ l, Ideal.exp (s l - Finset.univ.fold max ⊥ s) * (y l : EReal)) (∑ l, Ideal.exp (s l - Finset.univ.fold max ⊥ s))
      = ((num live x y / den live x : ℝ) : EReal) := by
  obtain ⟨μ, hμ⟩ := max_live hs hi
  have hd := den_pos live x hi
  have hp : 0 < Real.exp (-μ) * den live x := by positivity
  rw [hμ, sum_live hs μ]
  simp only [weight_live hs μ, ← EReal.coe_mul]
  rw [← coe_sum, div_real hp.ne']
  have h : ∑ l, Real.exp (-μ) * (if live l then Real.exp (x l) else 0) * y l = Real.exp (-μ) * num live x y := by
    unfold num
    rw [Finset.mul_sum]
    refine Finset.sum_congr rfl fun l _ => ?_
    split <;> ring
  rw [h, mul_div_mul_left _ _ (Real.exp_ne_zero _)]

omit [DecidablePred live] in
/-- Branches weighted by the softmax of the logarithms of their sums: the quotient of the sums over all branches. -/
theorem combine (L : Fin 3 → EReal) (D N : Fin 3 → ℝ) (hD : ∀ r, 0 < D r) (hL : ∀ r, L r = ((Real.log (D r) : ℝ) : EReal)) :
    ∑ r, Ideal.div (Ideal.exp (L r - max ⊥ (Finset.univ.fold max ⊥ L))) (∑ r, Ideal.exp (L r - max ⊥ (Finset.univ.fold max ⊥ L)))
        * ((N r / D r : ℝ) : EReal)
      = (((∑ r, N r) / ∑ r, D r : ℝ) : EReal) := by
  obtain ⟨μ, hμ⟩ := max_live (live := fun _ => True) (x := fun r => Real.log (D r)) (s := L) (fun r => by rw [hL r, if_pos trivial]) (i := 0) trivial
  rw [hμ, max_eq_right bot_le]
  have hw : ∀ r, Ideal.exp (L r - μ) = ((Real.exp (-μ) * D r : ℝ) : EReal) := fun r => by
    rw [hL r, exp_sub_real, sub_eq_neg_add, Real.exp_add, Real.exp_log (hD r)]
  have hS : 0 < ∑ r, D r := Finset.sum_pos (fun r _ => hD r) Finset.univ_nonempty
  simp only [hw]
  rw [← coe_sum, ← Finset.mul_sum]
  have hq : ∀ r, Ideal.div ((Real.exp (-μ) * D r : ℝ) : EReal) ((Real.exp (-μ) * ∑ r, D r : ℝ) : EReal) = ((D r / ∑ r, D r : ℝ) : EReal) := fun r => by
    rw [div_real (mul_ne_zero (Real.exp_ne_zero _) hS.ne'), mul_div_mul_left _ _ (Real.exp_ne_zero _)]
  simp only [hq, ← EReal.coe_mul]
  rw [← coe_sum, Finset.sum_div]
  congr 1
  refine Finset.sum_congr rfl fun r _ => ?_
  have := (hD r).ne'
  field_simp

end Cert.Attn

end
-- ==== Proof.Attn.RefKeys.lean ====
/- The keys a branch of dilation `p` sees, by distance in steps of `p`, are the positions its mask lets through. -/
module

public import proofs.«01_k».proof.Proof.Attn.Spec

@[expose] public section

noncomputable section

namespace Cert.Attn

/-- The `l`-th key behind position `t` in steps of `p`. -/
def back (p t l : ℕ) : ℕ := t - p * l

/-- A sum over the 129 keys behind position `t` in steps of `p` is a sum over positions. -/
theorem sum_back {p t : ℕ} (hp : 0 < p) (ht : t < 2048) (f : ℕ → ℝ) :
    (∑ l : Fin 129, if p * l.val ≤ t then f (back p t l.val) else 0)
      = ∑ u ∈ Finset.range 2048, (if u ≤ t ∧ t - u ≤ p * 128 ∧ p ∣ t - u then 1 else 0 : ℝ) * f u := by
  simp only [ite_mul, one_mul, zero_mul]
  rw [← Finset.sum_filter, ← Finset.sum_filter]
  refine Finset.sum_bij (fun l _ => back p t l.val) ?_ ?_ ?_ ?_
  · intro l hl
    have hl' := (Finset.mem_filter.mp hl).2
    have h1 : t - back p t l.val = p * l.val := by unfold back; omega
    refine Finset.mem_filter.mpr ⟨Finset.mem_range.mpr (by unfold back; omega), by unfold back; omega, ?_, ?_⟩
    · rw [h1]; exact Nat.mul_le_mul_left _ (by have := l.isLt; omega)
    · rw [h1]; exact Dvd.intro _ rfl
  · intro l hl l' hl' h
    have e1 := (Finset.mem_filter.mp hl).2
    have e2 := (Finset.mem_filter.mp hl').2
    unfold back at h
    have : p * l.val = p * l'.val := by omega
    exact Fin.ext (Nat.eq_of_mul_eq_mul_left hp this)
  · intro u hu
    obtain ⟨hu1, h1, h2, d, hd⟩ := Finset.mem_filter.mp hu
    have hd' : d < 129 := by
      rw [hd] at h2
      have := Nat.le_of_mul_le_mul_left h2 hp
      omega
    refine ⟨⟨d, hd'⟩, Finset.mem_filter.mpr ⟨Finset.mem_univ _, ?_⟩, ?_⟩
    · show p * d ≤ t; omega
    · show t - p * d = u; omega
  · intro l hl; rfl

/-- The three branches' sums together count each position with its multiplicity. -/
theorem sum_branches {t : ℕ} (ht : t < 2048) (f : ℕ → ℝ) :
    (∑ l : Fin 129, if 1 * l.val ≤ t then f (back 1 t l.val) else 0) + (∑ l : Fin 129, if 4 * l.val ≤ t then f (back 4 t l.val) else 0)
        + (∑ l : Fin 129, if 16 * l.val ≤ t then f (back 16 t l.val) else 0)
      = ∑ u ∈ Finset.range 2048, (mult t u : ℝ) * f u := by
  rw [sum_back (by decide) ht, sum_back (by decide) ht, sum_back (by decide) ht, ← Finset.sum_add_distrib, ← Finset.sum_add_distrib]
  refine Finset.sum_congr rfl fun u _ => ?_
  unfold mult
  push_cast
  ring

end Cert.Attn

end
-- ==== Proof.Attn.RefBranch.lean ====
/- The reference's three branches, entry by entry: scores, logarithms of sums and weighted means. -/
module

public import proofs.«01_k».proof.Proof.Attn.RefRot
public import proofs.«01_k».proof.Proof.Attn.RefSoft
public import proofs.«01_k».proof.Proof.Attn.RefKeys

@[expose] public section

set_option maxRecDepth 16384

noncomputable section

namespace Cert.ReferenceIdeal.Attn

open Cert.ReferenceIdeal.Gen Cert.ReferenceIdeal.Value Cert.Attn
open Idealize.ShloMosaic Idealize.ShloMosaic.TcCoe Idealize.ShloMosaic.Tactic Idealize.ShloMosaic.StableHlo
open Idealize.SL.Sem

/-- An entry of a table of scores, of a table of lanes, of a table of rows, and of what a gather by a table of positions leaves. -/
def at4 (X : Vec Ideal S16x8x2048x129 .f32) (b : Fin 16) (h : Fin 8) (t : Fin 2048) (l : Fin 129) : EReal := X (ix4 b h t l)
def at4' (X : Vec Ideal S16x8x2048x64 .f32) (b : Fin 16) (h : Fin 8) (t : Fin 2048) (d : Fin 64) : EReal := X (ix4 b h t d)
def at3 (X : Vec Ideal S16x8x2048 .f32) (b : Fin 16) (h : Fin 8) (t : Fin 2048) : EReal := X (ix3 b h t)
def gat (X : Vec Ideal S16x8x2048x64 .f32) (P : IVec S2048x129 32) (b : Fin 16) (h : Fin 8) (t : Fin 2048) (l : Fin 129) (d : Fin 64) : EReal :=
  (Host.gather gather_S16x8x2048x64_S2048x129x1_S16x8x2048x129x64_014_2_n_n_2_2_168164 X
    (broadcastInDim S2048x129x1 ![0, 1] bcast_S2048x129_S2048x129x1_0_1 P) : Vec Ideal S16x8x2048x129x64 .f32) (ix5 b h t l d)

/-! ## The words of positions -/

/-- The word of position `t` less `l` steps of `p`. -/
def step (p t l : ℕ) : BitVec 32 := IntOp.subi (BitVec.ofNat 32 t) (IntOp.muli (BitVec.ofNat 32 p) (BitVec.ofNat 32 l))

theorem step_int {p t l : ℕ} (hp : p ≤ 16) (ht : t < 2048) (hl : l < 129) : (step p t l).toInt = (t : ℤ) - p * l := by
  have h1 : p * l ≤ 16 * 128 := Nat.mul_le_mul hp (by omega)
  have h2 : step p t l = BitVec.ofInt 32 ((t : ℤ) - (p * l : ℕ)) := by
    unfold step IntOp.subi IntOp.muli
    apply BitVec.eq_of_toInt_eq
    have small : ∀ n : ℕ, n < 2048 → (BitVec.ofNat 32 n).toInt = n := fun n hn => by
      rw [BitVec.toInt_eq_toNat_cond, BitVec.toNat_ofNat, Nat.mod_eq_of_lt (by omega), if_pos (by omega)]
    rw [BitVec.toInt_sub, BitVec.toInt_mul, BitVec.toInt_ofInt, small t ht, small p (by omega), small l (by omega)]
    simp
  rw [h2, BitVec.toInt_ofInt, Int.bmod_eq_of_le (by omega) (by omega)]
  push_cast; ring

theorem step_seen {p t l : ℕ} (hp : p ≤ 16) (ht : t < 2048) (hl : l < 129) :
    IntOp.cmpi .sge (step p t l) 0#32 = if p * l ≤ t then 1#1 else 0#1 := by
  have h := step_int hp ht hl
  have e : BitVec.sle 0#32 (step p t l) = decide (p * l ≤ t) := by
    rw [BitVec.sle_eq_decide, h]
    refine decide_eq_decide.mpr ?_
    rw [BitVec.toInt_zero]
    have : (p : ℤ) * l = ((p * l : ℕ) : ℤ) := by push_cast; rfl
    omega
  show BitVec.ofBool (BitVec.sle 0#32 (step p t l)) = _
  rw [e]
  by_cases h : p * l ≤ t <;> simp [h]

theorem step_back {p t l : ℕ} (hp : p ≤ 16) (ht : t < 2048) (hl : l < 129) :
    (IntOp.maxsi (step p t l) 0#32).toInt.toNat = back p t l := by
  have h := step_int hp ht hl
  have e : (p : ℤ) * l = ((p * l : ℕ) : ℤ) := by push_cast; rfl
  unfold IntOp.maxsi back
  split
  · rw [h]; omega
  · next h' =>
    rw [BitVec.slt_eq_decide, h, BitVec.toInt_zero, decide_eq_true_eq] at h'
    rw [BitVec.toInt_zero]; omega

theorem back_lt {p t l : ℕ} (ht : t < 2048) : back p t l < 2048 := by unfold back; omega

theorem select_ite {α : Type} {p : Prop} [Decidable p] (x y : α) : Scalar.select (if p then 1#1 else 0#1) x y = if p then x else y := by
  by_cases h : p <;> simp [h, Scalar.select]

variable (V0 : Valuation τ sig (Elt Ideal)) (g : Fin 16 → Given)

/-- What a branch of dilation `p` sees from position `t`, and its scores. -/
abbrev Live (p t : ℕ) (l : Fin 129) : Prop := p * l.val ≤ t
abbrev Sc (b : Fin 16) (h : Fin 8) (p t : ℕ) (l : Fin 129) : ℝ := (g b).score h.val t (back p t l.val)

/-- The masked score of a branch, its table of positions given. -/
theorem score_of (R : Reads (Z V0) g) (P : IVec S2048x129 32) {p : ℕ} (hp : p ≤ 16)
    (hP : ∀ (t : Fin 2048) (l : Fin 129), P (ix2 t l) = IntOp.maxsi (step p t.val l.val) 0#32)
    (b : Fin 16) (h : Fin 8) (t : Fin 2048) (l : Fin 129) :
    Scalar.select (IntOp.cmpi CmpIPredicate.sge (step p t.val l.val) 0#32)
      ((∑ x : Fin 64,
          at4' (res_main_v35 V0) b h t x *
            gat (res_main_v66 V0) P b h t l x) *
        Ideal.ofBits FTy.f32 1040187392#32)
      (Ideal.ofBits FTy.f32 4286578688#32) = if Live p t.val l then (Sc g b h p t.val l : EReal) else ⊥ := by
  rw [step_seen hp t.isLt l.isLt, select_ite]
  have hg : ∀ x : Fin 64, gat (res_main_v66 V0) P b h t l x
      = (((g b).k (back p t.val l.val) (64 * h.val + x.val) : ℝ) : EReal) := fun x => by
    unfold gat
    rw [gather_at (res_main_v66 V0) P b h t l x ⟨back p t.val l.val, back_lt t.isLt⟩ (by rw [hP, step_back hp t.isLt l.isLt])]
    exact key_at V0 g R b h _ x
  have hq : ∀ x : Fin 64, at4' (res_main_v35 V0) b h t x = (((g b).q t.val (64 * h.val + x.val) : ℝ) : EReal) := query_at V0 g R b h t
  simp only [hg, hq]
  refine congrArg₂ (fun u v => if p * l.val ≤ t.val then u else v) ?_ negInf
  rw [show Ideal.ofBits FTy.f32 1040187392#32 = ((1 / 8 : ℝ) : EReal) from eighth]
  simp only [← EReal.coe_mul]
  rw [← coe_sum, ← EReal.coe_mul]
  unfold Sc Given.score
  rw [Finset.sum_range]

/-- The gathered values of a branch. -/
theorem value_of (R : Reads (Z V0) g) (P : IVec S2048x129 32) {p : ℕ} (hp : p ≤ 16)
    (hP : ∀ (t : Fin 2048) (l : Fin 129), P (ix2 t l) = IntOp.maxsi (step p t.val l.val) 0#32)
    (b : Fin 16) (h : Fin 8) (t : Fin 2048) (l : Fin 129) (d : Fin 64) :
    gat (res_main_v68 V0) P b h t l d
      = (((g b).v (back p t.val l.val) (64 * h.val + d.val) : ℝ) : EReal) := by
  unfold gat
  rw [gather_at (res_main_v68 V0) P b h t l d ⟨back p t.val l.val, back_lt t.isLt⟩ (by rw [hP, step_back hp t.isLt l.isLt])]
  exact value_at V0 g R b h _ d

/-! ## The branch of dilation 1 -/

theorem word_1 (t : Fin 2048) (l : Fin 129) : (res_main_v77 V0 : IVec S2048x129 32) (ix2 t l) = step 1 t.val l.val := by
  unfold res_main_v77
  clean_types
  pointwise [res_main_v69]
  rfl

theorem pos_1 (t : Fin 2048) (l : Fin 129) : (res_main_v81 V0 : IVec S2048x129 32) (ix2 t l) = IntOp.maxsi (step 1 t.val l.val) 0#32 := by
  unfold res_main_v81
  clean_types
  pointwise []
  rw [word_1]

theorem score_1 (R : Reads (Z V0) g) (b : Fin 16) (h : Fin 8) (t : Fin 2048) (l : Fin 129) :
    at4 (res_main_v87 V0) b h t l = if Live 1 t.val l then (Sc g b h 1 t.val l : EReal) else ⊥ := by
  unfold at4
  unfold res_main_v87
  clean_types
  pointwise []
  rw [word_1]
  exact score_of V0 g R _ (by decide) (pos_1 V0) b h t l

theorem top_1 (b : Fin 16) (h : Fin 8) (t : Fin 2048) :
    at3 (res_main_v88 V0) b h t
      = Finset.univ.fold max ⊥ fun l : Fin 129 => at4 (res_main_v87 V0) b h t l := by
  unfold at3 at4
  unfold res_main_v88
  clean_types
  pointwise []
  rw [show Ideal.ofBits FTy.f32 4286578688#32 = ⊥ from negInf]

theorem weight_1 (b : Fin 16) (h : Fin 8) (t : Fin 2048) (l : Fin 129) :
    at4 (res_main_v92 V0) b h t l
      = Ideal.exp (at4 (res_main_v87 V0) b h t l
          - Finset.univ.fold max ⊥ fun l : Fin 129 => at4 (res_main_v87 V0) b h t l) := by
  rw [← top_1]
  unfold at3 at4
  unfold res_main_v92
  clean_types
  pointwise []

theorem sum_1 (b : Fin 16) (h : Fin 8) (t : Fin 2048) :
    at3 (res_main_v93 V0) b h t
      = ∑ l : Fin 129, Ideal.exp (at4 (res_main_v87 V0) b h t l
          - Finset.univ.fold max ⊥ fun l : Fin 129 => at4 (res_main_v87 V0) b h t l) := by
  rw [show (∑ l : Fin 129, Ideal.exp (at4 (res_main_v87 V0) b h t l
          - Finset.univ.fold max ⊥ fun l : Fin 129 => at4 (res_main_v87 V0) b h t l))
      = ∑ l : Fin 129, at4 (res_main_v92 V0) b h t l from
    Finset.sum_congr rfl fun l _ => (weight_1 V0 b h t l).symm]
  unfold at3 at4
  unfold res_main_v93
  clean_types
  pointwise []

/-- The logarithm of the branch's sum of weights. -/
theorem lse_1 (R : Reads (Z V0) g) (b : Fin 16) (h : Fin 8) (t : Fin 2048) :
    at3 (res_main_v88 V0) b h t + Ideal.log (at3 (res_main_v93 V0) b h t)
      = ((Real.log (den (Live 1 t.val) (Sc g b h 1 t.val)) : ℝ) : EReal) := by
  rw [sum_1, top_1]
  exact lse_live (score_1 V0 g R b h t) (i := 0) (show 1 * 0 ≤ t.val by omega)

/-- The branch's weighted mean of the values. -/
theorem mean_1 (R : Reads (Z V0) g) (b : Fin 16) (h : Fin 8) (t : Fin 2048) (d : Fin 64) :
    Ideal.div (∑ l : Fin 129, at4 (res_main_v92 V0) b h t l
        * gat (res_main_v68 V0) (res_main_v81 V0) b h t l d)
        (at3 (res_main_v93 V0) b h t)
      = ((num (Live 1 t.val) (Sc g b h 1 t.val) (fun l => (g b).v (back 1 t.val l.val) (64 * h.val + d.val))
          / den (Live 1 t.val) (Sc g b h 1 t.val) : ℝ) : EReal) := by
  rw [sum_1]
  simp only [weight_1, value_of V0 g R _ (show 1 ≤ 16 by decide) (pos_1 V0)]
  exact mean_live _ (score_1 V0 g R b h t) (i := 0) (show 1 * 0 ≤ t.val by omega)

/-! ## The branch of dilation 4 -/

theorem word_4 (t : Fin 2048) (l : Fin 129) : (res_main_v107 V0 : IVec S2048x129 32) (ix2 t l) = step 4 t.val l.val := by
  unfold res_main_v107
  clean_types
  pointwise [res_main_v69]
  rfl

theorem pos_4 (t : Fin 2048) (l : Fin 129) : (res_main_v111 V0 : IVec S2048x129 32) (ix2 t l) = IntOp.maxsi (step 4 t.val l.val) 0#32 := by
  unfold res_main_v111
  clean_types
  pointwise []
  rw [word_4]

theorem score_4 (R : Reads (Z V0) g) (b : Fin 16) (h : Fin 8) (t : Fin 2048) (l : Fin 129) :
    at4 (res_main_v117 V0) b h t l = if Live 4 t.val l then (Sc g b h 4 t.val l : EReal) else ⊥ := by
  unfold at4
  unfold res_main_v117
  clean_types
  pointwise []
  rw [word_4]
  exact score_of V0 g R _ (by decide) (pos_4 V0) b h t l

theorem top_4 (b : Fin 16) (h : Fin 8) (t : Fin 2048) :
    at3 (res_main_v118 V0) b h t
      = Finset.univ.fold max ⊥ fun l : Fin 129 => at4 (res_main_v117 V0) b h t l := by
  unfold at3 at4
  unfold res_main_v118
  clean_types
  pointwise []
  rw [show Ideal.ofBits FTy.f32 4286578688#32 = ⊥ from negInf]

theorem weight_4 (b : Fin 16) (h : Fin 8) (t : Fin 2048) (l : Fin 129) :
    at4 (res_main_v122 V0) b h t l
      = Ideal.exp (at4 (res_main_v117 V0) b h t l
          - Finset.univ.fold max ⊥ fun l : Fin 129 => at4 (res_main_v117 V0) b h t l) := by
  rw [← top_4]
  unfold at3 at4
  unfold res_main_v122
  clean_types
  pointwise []

theorem sum_4 (b : Fin 16) (h : Fin 8) (t : Fin 2048) :
    at3 (res_main_v123 V0) b h t
      = ∑ l : Fin 129, Ideal.exp (at4 (res_main_v117 V0) b h t l
          - Finset.univ.fold max ⊥ fun l : Fin 129 => at4 (res_main_v117 V0) b h t l) := by
  rw [show (∑ l : Fin 129, Ideal.exp (at4 (res_main_v117 V0) b h t l
          - Finset.univ.fold max ⊥ fun l : Fin 129 => at4 (res_main_v117 V0) b h t l))
      = ∑ l : Fin 129, at4 (res_main_v122 V0) b h t l from
    Finset.sum_congr rfl fun l _ => (weight_4 V0 b h t l).symm]
  unfold at3 at4
  unfold res_main_v123
  clean_types
  pointwise []

/-- The logarithm of the branch's sum of weights. -/
theorem lse_4 (R : Reads (Z V0) g) (b : Fin 16) (h : Fin 8) (t : Fin 2048) :
    at3 (res_main_v118 V0) b h t + Ideal.log (at3 (res_main_v123 V0) b h t)
      = ((Real.log (den (Live 4 t.val) (Sc g b h 4 t.val)) : ℝ) : EReal) := by
  rw [sum_4, top_4]
  exact lse_live (score_4 V0 g R b h t) (i := 0) (show 4 * 0 ≤ t.val by omega)

/-- The branch's weighted mean of the values. -/
theorem mean_4 (R : Reads (Z V0) g) (b : Fin 16) (h : Fin 8) (t : Fin 2048) (d : Fin 64) :
    Ideal.div (∑ l : Fin 129, at4 (res_main_v122 V0) b h t l
        * gat (res_main_v68 V0) (res_main_v111 V0) b h t l d)
        (at3 (res_main_v123 V0) b h t)
      = ((num (Live 4 t.val) (Sc g b h 4 t.val) (fun l => (g b).v (back 4 t.val l.val) (64 * h.val + d.val))
          / den (Live 4 t.val) (Sc g b h 4 t.val) : ℝ) : EReal) := by
  rw [sum_4]
  simp only [weight_4, value_of V0 g R _ (show 4 ≤ 16 by decide) (pos_4 V0)]
  exact mean_live _ (score_4 V0 g R b h t) (i := 0) (show 4 * 0 ≤ t.val by omega)

/-! ## The branch of dilation 16 -/

theorem word_16 (t : Fin 2048) (l : Fin 129) : (res_main_v137 V0 : IVec S2048x129 32) (ix2 t l) = step 16 t.val l.val := by
  unfold res_main_v137
  clean_types
  pointwise [res_main_v69]
  rfl

theorem pos_16 (t : Fin 2048) (l : Fin 129) : (res_main_v141 V0 : IVec S2048x129 32) (ix2 t l) = IntOp.maxsi (step 16 t.val l.val) 0#32 := by
  unfold res_main_v141
  clean_types
  pointwise []
  rw [word_16]

theorem score_16 (R : Reads (Z V0) g) (b : Fin 16) (h : Fin 8) (t : Fin 2048) (l : Fin 129) :
    at4 (res_main_v147 V0) b h t l = if Live 16 t.val l then (Sc g b h 16 t.val l : EReal) else ⊥ := by
  unfold at4
  unfold res_main_v147
  clean_types
  pointwise []
  rw [word_16]
  exact score_of V0 g R _ (by decide) (pos_16 V0) b h t l

theorem top_16 (b : Fin 16) (h : Fin 8) (t : Fin 2048) :
    at3 (res_main_v148 V0) b h t
      = Finset.univ.fold max ⊥ fun l : Fin 129 => at4 (res_main_v147 V0) b h t l := by
  unfold at3 at4
  unfold res_main_v148
  clean_types
  pointwise []
  rw [show Ideal.ofBits FTy.f32 4286578688#32 = ⊥ from negInf]

theorem weight_16 (b : Fin 16) (h : Fin 8) (t : Fin 2048) (l : Fin 129) :
    at4 (res_main_v152 V0) b h t l
      = Ideal.exp (at4 (res_main_v147 V0) b h t l
          - Finset.univ.fold max ⊥ fun l : Fin 129 => at4 (res_main_v147 V0) b h t l) := by
  rw [← top_16]
  unfold at3 at4
  unfold res_main_v152
  clean_types
  pointwise []

theorem sum_16 (b : Fin 16) (h : Fin 8) (t : Fin 2048) :
    at3 (res_main_v153 V0) b h t
      = ∑ l : Fin 129, Ideal.exp (at4 (res_main_v147 V0) b h t l
          - Finset.univ.fold max ⊥ fun l : Fin 129 => at4 (res_main_v147 V0) b h t l) := by
  rw [show (∑ l : Fin 129, Ideal.exp (at4 (res_main_v147 V0) b h t l
          - Finset.univ.fold max ⊥ fun l : Fin 129 => at4 (res_main_v147 V0) b h t l))
      = ∑ l : Fin 129, at4 (res_main_v152 V0) b h t l from
    Finset.sum_congr rfl fun l _ => (weight_16 V0 b h t l).symm]
  unfold at3 at4
  unfold res_main_v153
  clean_types
  pointwise []

/-- The logarithm of the branch's sum of weights. -/
theorem lse_16 (R : Reads (Z V0) g) (b : Fin 16) (h : Fin 8) (t : Fin 2048) :
    at3 (res_main_v148 V0) b h t + Ideal.log (at3 (res_main_v153 V0) b h t)
      = ((Real.log (den (Live 16 t.val) (Sc g b h 16 t.val)) : ℝ) : EReal) := by
  rw [sum_16, top_16]
  exact lse_live (score_16 V0 g R b h t) (i := 0) (show 16 * 0 ≤ t.val by omega)

/-- The branch's weighted mean of the values. -/
theorem mean_16 (R : Reads (Z V0) g) (b : Fin 16) (h : Fin 8) (t : Fin 2048) (d : Fin 64) :
    Ideal.div (∑ l : Fin 129, at4 (res_main_v152 V0) b h t l
        * gat (res_main_v68 V0) (res_main_v141 V0) b h t l d)
        (at3 (res_main_v153 V0) b h t)
      = ((num (Live 16 t.val) (Sc g b h 16 t.val) (fun l => (g b).v (back 16 t.val l.val) (64 * h.val + d.val))
          / den (Live 16 t.val) (Sc g b h 16 t.val) : ℝ) : EReal) := by
  rw [sum_16]
  simp only [weight_16, value_of V0 g R _ (show 16 ≤ 16 by decide) (pos_16 V0)]
  exact mean_live _ (score_16 V0 g R b h t) (i := 0) (show 16 * 0 ≤ t.val by omega)

end Cert.ReferenceIdeal.Attn

end
-- ==== Proof.Attn.RefOut.lean ====
/- The reference's output, entry by entry. -/
module

public import proofs.«01_k».proof.Proof.Attn.RefBranch

@[expose] public section

set_option maxRecDepth 16384

noncomputable section

namespace Cert.ReferenceIdeal.Attn

open Cert.ReferenceIdeal.Gen Cert.ReferenceIdeal.Value Cert.Attn
open Idealize.ShloMosaic Idealize.ShloMosaic.TcCoe Idealize.ShloMosaic.Tactic Idealize.ShloMosaic.StableHlo
open Idealize.SL.Sem

/-! ## Three tables laid one after another -/

theorem three_rows (A B C : FVec Ideal S1x16x8x2048 .f32) (r : Fin 3) (b : Fin 16) (h : Fin 8) (t : Fin 2048) :
    (concatenate S3x16x8x2048 0 [⟨S1x16x8x2048, A⟩, ⟨S1x16x8x2048, B⟩, ⟨S1x16x8x2048, C⟩]
      concatenates_S1x16x8x2048_S1x16x8x2048_S1x16x8x2048_S3x16x8x2048_d0 : FVec Ideal S3x16x8x2048 .f32) (ix4 r b h t)
      = if r.val < 1 then A (ix4 (0 : Fin 1) b h t) else if r.val - 1 < 1 then B (ix4 (0 : Fin 1) b h t) else C (ix4 (0 : Fin 1) b h t) := by
  pointwise []
  match r with
  | ⟨0, _⟩ => rfl
  | ⟨1, _⟩ => rfl
  | ⟨2, _⟩ => rfl

theorem three_lanes (A B C : FVec Ideal S1x16x8x2048x64 .f32) (r : Fin 3) (b : Fin 16) (h : Fin 8) (t : Fin 2048) (d : Fin 64) :
    (concatenate S3x16x8x2048x64 0 [⟨S1x16x8x2048x64, A⟩, ⟨S1x16x8x2048x64, B⟩, ⟨S1x16x8x2048x64, C⟩]
      concatenates_S1x16x8x2048x64_S1x16x8x2048x64_S1x16x8x2048x64_S3x16x8x2048x64_d0 : FVec Ideal S3x16x8x2048x64 .f32) (ix5 r b h t d)
      = if r.val < 1 then A (ix5 (0 : Fin 1) b h t d) else if r.val - 1 < 1 then B (ix5 (0 : Fin 1) b h t d) else C (ix5 (0 : Fin 1) b h t d) := by
  pointwise []
  match r with
  | ⟨0, _⟩ => rfl
  | ⟨1, _⟩ => rfl
  | ⟨2, _⟩ => rfl

theorem mean_at (E : FVec Ideal S16x8x2048x129 .f32) (G : FVec Ideal S16x8x2048x129x64 .f32) (D : FVec Ideal S16x8x2048 .f32)
    (b : Fin 16) (h : Fin 8) (t : Fin 2048) (d : Fin 64) :
    (broadcastInDim S1x16x8x2048x64 ![1, 2, 3, 4] bcast_S16x8x2048x64_S1x16x8x2048x64_1_2_3_4 (Host.divf (Host.dotGeneral dot_S16x8x2048x129_S16x8x2048x129x64_S16x8x2048x64_3_3_n_4_012_012 none E G) (broadcastInDim S16x8x2048x64 ![0, 1, 2, 3] bcast_S16x8x2048x1_S16x8x2048x64_0_1_2_3 (broadcastInDim S16x8x2048x1 ![0, 1, 2] bcast_S16x8x2048_S16x8x2048x1_0_1_2 D))) : FVec Ideal S1x16x8x2048x64 .f32) (ix5 (0 : Fin 1) b h t d)
      = Ideal.div (∑ l : Fin 129, E (ix4 b h t l) * G (ix5 b h t l d)) (D (ix3 b h t)) := by
  pointwise []

theorem lse_at (M D : FVec Ideal S16x8x2048 .f32) (b : Fin 16) (h : Fin 8) (t : Fin 2048) :
    (broadcastInDim S1x16x8x2048 ![1, 2, 3] bcast_S16x8x2048_S1x16x8x2048_1_2_3 (addf M (Host.log D)) : FVec Ideal S1x16x8x2048 .f32) (ix4 (0 : Fin 1) b h t)
      = M (ix3 b h t) + Ideal.log (D (ix3 b h t)) := by
  pointwise []

/-- The branches' weights from their logarithms of sums. -/
theorem weights_at (L : FVec Ideal S3x16x8x2048 .f32) (r : Fin 3) (b : Fin 16) (h : Fin 8) (t : Fin 2048) :
    (Host.exp (subf L (broadcastInDim S3x16x8x2048 ![0, 1, 2, 3] bcast_S1x16x8x2048_S3x16x8x2048_0_1_2_3 (broadcastInDim S1x16x8x2048 ![1, 2, 3] bcast_S16x8x2048_S1x16x8x2048_1_2_3 (maximumf (broadcastInDim S16x8x2048 ![] bcast_S_S16x8x2048 (constant S_ .f32 0xFF800000#32)) (Host.reduce FloatOps.maximumf L (constant S_ .f32 0xFF800000#32) reducesTo_S3x16x8x2048_S16x8x2048_d0 h_S_))))) : FVec Ideal S3x16x8x2048 .f32) (ix4 r b h t)
      = Ideal.exp (L (ix4 r b h t) - max ⊥ (Finset.univ.fold max ⊥ fun x : Fin 3 => L (ix4 x b h t))) := by
  rw [← negInf]
  pointwise []

/-- The head and the lane of a column. -/
def head (j : Fin 512) : Fin 8 := ⟨j.val / 64, by omega⟩
def lane (j : Fin 512) : Fin 64 := ⟨j.val % 64, by omega⟩

/-- The branches combined, in the layer's order of positions and columns. -/
theorem combined_at (W : FVec Ideal S3x16x8x2048 .f32) (Y : FVec Ideal S3x16x8x2048x64 .f32) (b : Fin 16) (t : Fin 2048) (j : Fin 512) :
    (shapeCast S16x2048x512 (transpose S16x2048x8x64 [0, 2, 1, 3] (Host.dotGeneral dot_S3x16x8x2048_S3x16x8x2048x64_S16x8x2048x64_0_0_n_4_123_123 none (Host.divf W (broadcastInDim S3x16x8x2048 ![0, 1, 2, 3] bcast_S1x16x8x2048_S3x16x8x2048_0_1_2_3 (broadcastInDim S1x16x8x2048 ![1, 2, 3] bcast_S16x8x2048_S1x16x8x2048_1_2_3 (Host.reduceAdd W (constant S_ .f32 0x00000000#32) reducesTo_S3x16x8x2048_S16x8x2048_d0 h_S_)))) Y) transposes_S16x8x2048x64_S16x2048x8x64_0_2_1_3) shapeCasts_S16x2048x8x64_S16x2048x512 : FVec Ideal S16x2048x512 .f32) (ix3 b t j)
      = ∑ r : Fin 3, Ideal.div (W (ix4 r b (head j) t)) (∑ r : Fin 3, W (ix4 r b (head j) t)) * Y (ix5 r b (head j) t (lane j)) := by
  pointwise []
  rfl

end Cert.ReferenceIdeal.Attn

end
-- ==== Proof.Attn.RefSum.lean ====
/- The reference's output is the attention of its projections. -/
module

public import proofs.«01_k».proof.Proof.Attn.RefOut

@[expose] public section

set_option maxRecDepth 16384

noncomputable section

namespace Cert.ReferenceIdeal.Attn

open Cert.ReferenceIdeal.Gen Cert.ReferenceIdeal.Value Cert.Attn
open Idealize.ShloMosaic Idealize.ShloMosaic.TcCoe Idealize.ShloMosaic.Tactic Idealize.ShloMosaic.StableHlo
open Idealize.SL.Sem

/-! ## The attention -/

variable (V0 : Valuation τ sig (Elt Ideal)) (g : Fin 16 → Given)

/-- An entry of a table of branches. -/
def row (X : FVec Ideal S3x16x8x2048 .f32) (r : Fin 3) (b : Fin 16) (h : Fin 8) (t : Fin 2048) : EReal := X (ix4 r b h t)

/-- The branches' dilations. -/
def dil (r : Fin 3) : ℕ := if r.val < 1 then 1 else if r.val - 1 < 1 then 4 else 16

/-- A branch's sum of weights, and its weighted sum of values. -/
def Dn (b : Fin 16) (h : Fin 8) (t : Fin 2048) (r : Fin 3) : ℝ := den (Live (dil r) t.val) (Sc g b h (dil r) t.val)
def Nm (b : Fin 16) (h : Fin 8) (t : Fin 2048) (d : Fin 64) (r : Fin 3) : ℝ :=
  num (Live (dil r) t.val) (Sc g b h (dil r) t.val) fun l => (g b).v (back (dil r) t.val l.val) (64 * h.val + d.val)

theorem Dn_pos (b : Fin 16) (h : Fin 8) (t : Fin 2048) (r : Fin 3) : 0 < Dn g b h t r :=
  den_pos _ _ (i := 0) (show dil r * 0 ≤ t.val by omega)

/-- The branches' logarithms of sums. -/
theorem lse_row (R : Reads (Z V0) g) (r : Fin 3) (b : Fin 16) (h : Fin 8) (t : Fin 2048) :
    row (res_main_v163 V0) r b h t = ((Real.log (Dn g b h t r) : ℝ) : EReal) := by
  unfold row res_main_v163
  refine (three_rows _ _ _ r b h t).trans ?_
  match r with
  | ⟨0, _⟩ => exact (lse_at _ _ b h t).trans (lse_1 V0 g R b h t)
  | ⟨1, _⟩ => exact (lse_at _ _ b h t).trans (lse_4 V0 g R b h t)
  | ⟨2, _⟩ => exact (lse_at _ _ b h t).trans (lse_16 V0 g R b h t)

/-- The branches' weights. -/
theorem weight_row (r : Fin 3) (b : Fin 16) (h : Fin 8) (t : Fin 2048) :
    row (res_main_v170 V0) r b h t
      = Ideal.exp (row (res_main_v163 V0) r b h t
          - max ⊥ (Finset.univ.fold max ⊥ fun x : Fin 3 => row (res_main_v163 V0) x b h t)) := by
  unfold row res_main_v170
  exact weights_at (res_main_v163 V0) r b h t

/-- The branches' sums of weights and of values, added, are the sums over the keys with their multiplicities. -/
theorem Dn_sum (b : Fin 16) (t : Fin 2048) (j : Fin 512) :
    ∑ r, Dn g b (head j) t r = (g b).total (j.val / 64) t.val 2048 fun _ => 1 := by
  rw [Fin.sum_univ_three]
  refine (sum_branches t.isLt fun u => Real.exp ((g b).score (j.val / 64) t.val u)).trans ?_
  unfold Given.total
  simp

theorem Nm_sum (b : Fin 16) (t : Fin 2048) (j : Fin 512) :
    ∑ r, Nm g b (head j) t (lane j) r = (g b).total (j.val / 64) t.val 2048 fun u => (g b).v u j.val := by
  rw [Fin.sum_univ_three]
  have hj : 64 * (head j).val + (lane j).val = j.val := by
    show 64 * (j.val / 64) + j.val % 64 = j.val
    omega
  unfold Nm
  rw [hj]
  refine (sum_branches t.isLt fun u => Real.exp ((g b).score (j.val / 64) t.val u) * (g b).v u j.val).trans ?_
  unfold Given.total
  simp only [mul_assoc]

/-- The combined output, its branches' means given. -/
theorem out_of (R : Reads (Z V0) g) (Y : FVec Ideal S3x16x8x2048x64 .f32) (b : Fin 16) (t : Fin 2048) (j : Fin 512)
    (hY : ∀ r, Y (ix5 r b (head j) t (lane j)) = ((Nm g b (head j) t (lane j) r / Dn g b (head j) t r : ℝ) : EReal)) :
    (shapeCast S16x2048x512 (transpose S16x2048x8x64 [0, 2, 1, 3] (Host.dotGeneral dot_S3x16x8x2048_S3x16x8x2048x64_S16x8x2048x64_0_0_n_4_123_123 none (Host.divf (res_main_v170 V0) (broadcastInDim S3x16x8x2048 ![0, 1, 2, 3] bcast_S1x16x8x2048_S3x16x8x2048_0_1_2_3 (broadcastInDim S1x16x8x2048 ![1, 2, 3] bcast_S16x8x2048_S1x16x8x2048_1_2_3 (Host.reduceAdd (res_main_v170 V0) (constant S_ .f32 0x00000000#32) reducesTo_S3x16x8x2048_S16x8x2048_d0 h_S_)))) Y) transposes_S16x8x2048x64_S16x2048x8x64_0_2_1_3) shapeCasts_S16x2048x8x64_S16x2048x512 : FVec Ideal S16x2048x512 .f32) (ix3 b t j)
      = (((g b).out t.val j.val : ℝ) : EReal) := by
  refine (combined_at (res_main_v170 V0) Y b t j).trans ?_
  change ∑ r : Fin 3, Ideal.div (row (res_main_v170 V0) r b (head j) t) (∑ r : Fin 3, row (res_main_v170 V0) r b (head j) t) * _ = _
  simp only [weight_row, hY]
  rw [combine _ (Dn g b (head j) t) (Nm g b (head j) t (lane j)) (Dn_pos g b (head j) t) (fun r => lse_row V0 g R r b (head j) t),
    Dn_sum, Nm_sum]
  rfl

/-- What a branch adds to the stack of means. -/
theorem mean_row (E : FVec Ideal S16x8x2048x129 .f32) (P : IVec S2048x129 32) (D : FVec Ideal S16x8x2048 .f32)
    (b : Fin 16) (h : Fin 8) (t : Fin 2048) (d : Fin 64) :
    (broadcastInDim S1x16x8x2048x64 ![1, 2, 3, 4] bcast_S16x8x2048x64_S1x16x8x2048x64_1_2_3_4 (Host.divf (Host.dotGeneral dot_S16x8x2048x129_S16x8x2048x129x64_S16x8x2048x64_3_3_n_4_012_012 none E (Host.gather gather_S16x8x2048x64_S2048x129x1_S16x8x2048x129x64_014_2_n_n_2_2_168164 (res_main_v68 V0) (broadcastInDim S2048x129x1 ![0, 1] bcast_S2048x129_S2048x129x1_0_1 P) : FVec Ideal S16x8x2048x129x64 .f32)) (broadcastInDim S16x8x2048x64 ![0, 1, 2, 3] bcast_S16x8x2048x1_S16x8x2048x64_0_1_2_3 (broadcastInDim S16x8x2048x1 ![0, 1, 2] bcast_S16x8x2048_S16x8x2048x1_0_1_2 D))) : FVec Ideal S1x16x8x2048x64 .f32) (ix5 (0 : Fin 1) b h t d)
      = Ideal.div (∑ l : Fin 129, at4 E b h t l * gat (res_main_v68 V0) P b h t l d) (at3 D b h t) :=
  mean_at _ _ _ b h t d

end Cert.ReferenceIdeal.Attn

end
-- ==== Proof.Attn.RefRun.lean ====
/- The reference's run leaves the attention of its projections. -/
module

public import proofs.«01_k».proof.Proof.Attn.RefSum
public import Idealize.ShloMosaic.Lib.Quiescent

@[expose] public section

set_option maxRecDepth 16384

noncomputable section

namespace Cert.ReferenceIdeal.Attn

open Cert.ReferenceIdeal.Gen Cert.ReferenceIdeal.Value Cert.Attn
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg) (g : Dev nD → Fin 16 → Given)

/-- From real projections the reference's run leaves the attention in its result and its argument as it was. -/
theorem run_attention (R : ∀ c : Dev nD, Reads (m ((c.tc : Thread nD τ).loc main_arg0)) (g c)) :
    θ_run defs (onTc (τ := τ) (main (F := Ideal))) ⟨m, fun _ => 0, ρ⟩ fun r => ∀ c : Dev nD,
      (r.2.mem ((c.tc : Thread nD τ).loc main_v181) = (fun i => (((g c (i 0)).out (i 1).val (i 2).val : ℝ) : EReal) : FVec Ideal S16x2048x512 .f32))
      ∧ r.2.mem ((c.tc : Thread nD τ).loc main_arg0) = m ((c.tc : Thread nD τ).loc main_arg0) := by
  refine (θ_run defs _ _).mono (fun _ h c => ⟨(h c).1.trans ?_, (h c).2⟩) (run m ρ)
  have Rc : Reads (Z (launchContents m c)) (g c) := R c
  generalize launchContents m c = V0 at Rc
  funext i
  obtain ⟨b, t, j, rfl⟩ : ∃ (b : Fin 16) (t : Fin 2048) (j : Fin 512), i = ix3 b t j := ⟨i 0, i 1, i 2, by
    funext a
    match a with
    | ⟨0, _⟩ => rfl
    | ⟨1, _⟩ => rfl
    | ⟨2, _⟩ => rfl⟩
  refine out_of V0 (g c) Rc _ b t j fun r => ?_
  refine (three_lanes _ _ _ r b (head j) t (lane j)).trans ?_
  match r with
  | ⟨0, _⟩ => exact (mean_row V0 _ _ _ b (head j) t (lane j)).trans (mean_1 V0 (g c) Rc b (head j) t (lane j))
  | ⟨1, _⟩ => exact (mean_row V0 _ _ _ b (head j) t (lane j)).trans (mean_4 V0 (g c) Rc b (head j) t (lane j))
  | ⟨2, _⟩ => exact (mean_row V0 _ _ _ b (head j) t (lane j)).trans (mean_16 V0 (g c) Rc b (head j) t (lane j))

/-- The reference runs, leaves its argument unchanged and has no counters to leave. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems (by decide) r.2⟩) (run m ρ)

end Cert.ReferenceIdeal.Attn

end
-- ==== Proof.Proj.Spec.lean ====
/- The layer's two projections, entry by entry over the extended reals. -/
module

public import Idealize.ShloMosaic.Lib.Claim
public import Idealize.ShloMosaic.Lib.Pointwise

@[expose] public section

noncomputable section

namespace Cert.Proj

open Idealize.ShloMosaic

/-- One over the root of a row's mean square: the sum of squares over 1024, and a small constant added. -/
def scaleOf (a : Fin 1024 → EReal) : EReal :=
  Ideal.rsqrt (Ideal.div (∑ k, a k * a k) (Ideal.ofBits FTy.f32 0x44800000#32) + Ideal.ofBits FTy.f32 0x358637BD#32)

/-- A normalised row, weighted by `g`, against a column of the matrix. -/
def normed (a g u : Fin 1024 → EReal) : EReal := ∑ k, a k * scaleOf a * g k * u k

/-- An entry plus a row of 1024 against a column. -/
def added (e : EReal) (a u : Fin 1024 → EReal) : EReal := e + ∑ k, a k * u k

/-- Two rows of 512, one after the other. -/
def joined (p q : Fin 512 → EReal) (k : Fin 1024) : EReal :=
  if h : k.val < 512 then p ⟨k.val, h⟩ else q ⟨k.val - 512, by omega⟩

/-- The joined rows' product with a column is the sum of the products with the column's two halves. -/
theorem added_joined (e : EReal) (p q : Fin 512 → EReal) (u : Fin 1024 → EReal) :
    added e (joined p q) u
      = e + (∑ k : Fin 512, p k * u ⟨k.val, by omega⟩) + ∑ k : Fin 512, q k * u ⟨512 + k.val, by omega⟩ := by
  unfold added
  rw [add_assoc]
  refine congrArg (e + ·) ?_
  refine (Fin.sum_univ_add (a := 512) (b := 512) fun k : Fin (512 + 512) => joined p q k * u k).trans ?_
  refine congrArg₂ (· + ·) (Finset.sum_congr rfl fun k _ => ?_) (Finset.sum_congr rfl fun k _ => ?_)
  · have h : (Fin.castAdd 512 k : Fin (512 + 512)).val < 512 := k.isLt
    rw [joined, dif_pos h]
    rfl
  · have h : ¬ (Fin.natAdd 512 k : Fin (512 + 512)).val < 512 := by
      rw [Fin.val_natAdd]
      omega
    rw [joined, dif_neg h]
    have e : (⟨(Fin.natAdd 512 k : Fin (512 + 512)).val - 512, by rw [Fin.val_natAdd]; omega⟩ : Fin 512) = k := Fin.ext (by
      show (Fin.natAdd 512 k : Fin (512 + 512)).val - 512 = k.val
      rw [Fin.val_natAdd]
      omega)
    exact congrArg₂ (· * ·) (congrArg q e) rfl

end Cert.Proj

end
-- ==== Proof.Proj.NormKernel.lean ====
/- The first projection's kernel: every tile holds its rows, normalised, against the columns. -/
module

public import proofs.«01_k».proof.Proof.Proj.Spec
public import proofs.«01_k».proof.Proof.Gen.Kernel2Ideal.Value
public import Idealize.ShloMosaic.Lib.Tactic.CleanTypes
public import Idealize.ShloMosaic.Lib.StableHlo.RunRead
public import Idealize.ShloMosaic.Lib.Pipeline.ValueKit.Point
public import Idealize.ShloMosaic.Lib.Pipeline.Covers

@[expose] public section

set_option maxRecDepth 16384

noncomputable section

namespace Cert.Kernel2Ideal.Proj

open Cert.Kernel2Ideal.Gen Cert.Proj
open Idealize.ShloMosaic Idealize.ShloMosaic.TcCoe Idealize.ShloMosaic.Tactic
open Idealize.SL.Sem

variable (m : (ℓ : Loc nD τ sig) → Buf (Elt Ideal) ℓ) (c : Dev nD)

/-- The rows, the weights of the norm and the matrix the run is given. -/
abbrev X : FVec Ideal S32768x1024 .f32 := m ((c : Thread nD τ).loc main_arg0)
abbrev W : FVec Ideal S1024 .f32 := m ((c : Thread nD τ).loc main_arg1)
abbrev M : FVec Ideal S1024x2560 .f32 := m ((c : Thread nD τ).loc main_arg2)

/-- The projection of the rows `x` with the weights `g` by the matrix `w`. -/
def projection (x : FVec Ideal S32768x1024 .f32) (g : FVec Ideal S1024 .f32) (w : FVec Ideal S1024x2560 .f32) : FVec Ideal S32768x2560 .f32 :=
  fun i => normed (fun k => x (ix2 (i 0) k)) (fun k => g (ix1 k)) (fun k => w (ix2 k (i 1)))

/-- What the body computes of its blocks. -/
theorem pay_at (x : Vec Ideal S256x1024 .f32) (g : Vec Ideal S1x1024 .f32) (w : Vec Ideal S1024x2560 .bf16) (r : Fin 256) (j : Fin 2560) :
    k0_pay1 (F := Ideal) x g w (ix2 r j) = normed (fun k => x (ix2 r k)) (fun k => g (ix2 0 k)) (fun k => w (ix2 k j)) := by
  pointwise [k0_pay1]
  rfl

theorem idx0 : ∀ i : grid0.Coords, cc0_transform_0 i = ![(i 0).val, 0] := by decide +kernel
theorem idx1 : ∀ i : grid0.Coords, cc0_transform_1 i = ![0, 0] := by decide +kernel
theorem idx2 : ∀ i : grid0.Coords, cc0_transform_2 i = ![0, 0] := by decide +kernel
theorem idx3 : ∀ i : grid0.Coords, cc0_transform_3 i = ![(i 0).val, 0] := by decide +kernel

/-- The tile of a point. -/
def tile (t : Fin cfg0.N) : Fin 128 := grid0.coords t 0

/-- Its row `r` in the array. -/
def row (t : Fin cfg0.N) (r : Fin 256) : Fin 32768 := ⟨256 * (tile t).val + r.val, by
  have := (tile t).isLt
  omega⟩

/-- A block of rows. -/
theorem rows_at (t : Fin cfg0.N) (r : Fin 256) (k : Fin 1024) : iblk m c 0 t (ix2 r k) = X m c (ix2 (row t r) k) := by
  have h0 : win0_0.index t 0 = (tile t).val := congrFun (idx0 (grid0.coords t)) 0
  have h1 : win0_0.index t 1 = 0 := congrFun (idx0 (grid0.coords t)) 1
  blk_ext [iblk, V, row]
  all_goals omega

/-- The weights, whole at every point. -/
theorem weights_at (t : Fin cfg0.N) (k : Fin 1024) : iblk m c 1 t (ix2 0 k) = W m c (ix1 k) := by
  have h0 : win0_1.index t 0 = 0 := congrFun (idx1 (grid0.coords t)) 0
  have h1 : win0_1.index t 1 = 0 := congrFun (idx1 (grid0.coords t)) 1
  have e : (V m c main_v1 : FVec Ideal S1x1024 .f32) (ix2 0 k) = W m c (ix1 k) := by
    unfold V hostOps0
    after_reads_simp
    pointwise
  rw [← e]
  blk_ext [iblk]
  all_goals omega

/-- The matrix, whole at every point. -/
theorem matrix_at (t : Fin cfg0.N) (k : Fin 1024) (j : Fin 2560) : iblk m c 2 t (ix2 k j) = M m c (ix2 k j) := by
  have h0 : win0_2.index t 0 = 0 := congrFun (idx2 (grid0.coords t)) 0
  have h1 : win0_2.index t 1 = 0 := congrFun (idx2 (grid0.coords t)) 1
  have e : (V m c main_v0 : Vec Ideal S1024x2560 .bf16) (ix2 k j) = M m c (ix2 k j) := by
    unfold V hostOps0
    after_reads_simp
    pointwise
  rw [← e]
  blk_ext [iblk]
  all_goals omega

theorem zeros : (![0, 0] : Fin 2 → ℕ) = fun _ => 0 := funext fun a => match a with
  | ⟨0, _⟩ => rfl
  | ⟨1, _⟩ => rfl

theorem projection_at (x : FVec Ideal S32768x1024 .f32) (g : FVec Ideal S1024 .f32) (w : FVec Ideal S1024x2560 .f32) (i : Fin 32768) (j : Fin 2560) :
    projection x g w (ix2 i j) = normed (fun k => x (ix2 i k)) (fun k => g (ix1 k)) (fun k => w (ix2 k j)) := rfl

/-- What a point stores at a row and a column of its tile. -/
theorem stored_at (t : Fin cfg0.N) (r : Fin 256) (j : Fin 2560) :
    out0_3 (iblk m c 0 t) (iblk m c 1 t) (iblk m c 2 t) (ix2 r j) = projection (X m c) (W m c) (M m c) (ix2 (row t r) j) := by
  unfold out0_3
  rw [View.canon_unit_zero zeros, View.ld_unit_zero zeros, View.ld_unit_zero zeros, View.ld_unit_zero zeros]
  refine (pay_at _ _ _ r j).trans ?_
  rw [projection_at]
  refine congr (congrArg₂ normed (funext fun k => rows_at m c t r k) (funext fun k => weights_at m c t k)) (funext fun k => matrix_at m c t k j)

/-- The tiles cover the array. -/
theorem covered : (cfg0.win 3).Covers :=
  (cfg0.win 3).covers_of_indexMap_surj rfl (by decide) fun β => by
    have l0 : (β 0).val < 128 := (β 0).isLt
    have l1 : (β 1).val < 1 := (β 1).isLt
    let i : grid0.Coords := fun a => match a with
      | ⟨0, _⟩ => ⟨(β 0).val, l0⟩
    have h := idx3 i
    refine ⟨i, fun a => ?_⟩
    refine (congrFun h a).trans ?_
    match a with
    | ⟨0, _⟩ => rfl
    | ⟨1, _⟩ => exact (Nat.lt_one_iff.mp l1).symm

/-- An entry of a tile of the result, in the array. -/
theorem tile_at (P : FVec Ideal S32768x2560 .f32) (t : Fin cfg0.N) (r : Fin 256) (j : Fin 2560) :
    P (ix2 (row t r) j) = ((cfg0.win 3).blk t).view.read (Elt Ideal) P (ix2 r j) := by
  have h0 : win0_3.index t 0 = (tile t).val := congrFun (idx3 (grid0.coords t)) 0
  have h1 : win0_3.index t 1 = 0 := congrFun (idx3 (grid0.coords t)) 1
  blk_ext [iblk, row]
  all_goals omega

/-- Every index of a tile is a row and a column. -/
theorem entry (y : S256x2560.Idx) : ∃ (r : Fin 256) (j : Fin 2560), y = ix2 r j := ⟨y 0, y 1, by
  funext a
  match a with
  | ⟨0, _⟩ => rfl
  | ⟨1, _⟩ => rfl⟩

/-- What a point writes back is its tile of an array with the entries that it stores. -/
theorem written (P : FVec Ideal S32768x2560 .f32) (t : Fin cfg0.N) (B : Vec Ideal S256x2560 .f32)
    (h : ∀ r j, B (ix2 r j) = P (ix2 (row t r) j)) (y : S256x2560.Idx) :
    B y = ((cfg0.win 3).blk t).view.read (Elt Ideal) P y := by
  obtain ⟨r, j, rfl⟩ := entry y
  exact (h r j).trans (tile_at P t r j)

/-- The array after the grid is the projection. -/
theorem array : (dats m 0 c).arrAt 3 cfg0.N = projection (X m c) (W m c) (M m c) :=
  (dats m 0 c).arrAt_eq_of_covers 3 _ covered fun t hf y => by
    rw [after0_3]
    have hs := stored_at m c t
    generalize out0_3 (iblk m c 0 t) (iblk m c 1 t) (iblk m c 2 t) = B at hs ⊢
    generalize projection (X m c) (W m c) (M m c) = P at hs ⊢
    exact written P t B hs y

variable (ρ : Dev nD → PrngReg)

/-- The kernel's run leaves the projection in its result and its arguments as they were. -/
theorem run_projection : θ_run defs (onTc (τ := τ) (main (F := Ideal))) ⟨m, fun _ => 0, ρ⟩ (fun r => ∀ c : Dev nD,
      r.2.mem ((c.tc : Thread nD τ).loc main_v2) = projection (X m c) (W m c) (M m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (array m c), (h c).2⟩) (Value.run_blocks m ρ)

end Cert.Kernel2Ideal.Proj

end
-- ==== Proof.Proj.NormRef.lean ====
/- The first projection's reference: each entry is a normalised row against a column. -/
module

public import proofs.«01_k».proof.Proof.Proj.Spec
public import proofs.«01_k».proof.Proof.Gen.Reference2Ideal.Run
public import Idealize.ShloMosaic.Lib.Quiescent

@[expose] public section

set_option maxRecDepth 16384

noncomputable section

namespace Cert.Reference2Ideal.Proj

open Cert.Reference2Ideal.Gen Cert.Proj
open Idealize.ShloMosaic Idealize.ShloMosaic.TcCoe Idealize.ShloMosaic.Tactic Idealize.ShloMosaic.StableHlo
open Idealize.SL.Sem

/-- The host's norm and product, read at an entry. -/
theorem product_at (x : FVec Ideal S32768x1024 .f32) (g : FVec Ideal S1024 .f32) (w : FVec Ideal S1024x2560 .f32) (t : Fin 32768) (j : Fin 2560) :
    Host.dotGeneral dot_S32768x1024_S1024x2560_S32768x2560_1_0_0_1_n_n none (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) w (ix2 t j)
      = normed (fun k => x (ix2 t k)) (fun k => g (ix1 k)) (fun k => w (ix2 k j)) := by
  pointwise
  rfl

variable (m : (ℓ : Loc nD τ sig) → Buf (Elt Ideal) ℓ) (ρ : Dev nD → PrngReg)

/-- The reference's run leaves in its result the projection of its arguments, which it leaves as they were. -/
theorem run_projection : θ_run defs (onTc (τ := τ) (main (F := Ideal))) ⟨m, fun _ => 0, ρ⟩ fun r => ∀ c : Dev nD,
      (r.2.mem ((c.tc : Thread nD τ).loc main_v13) = (fun i => normed
          (fun k => (m ((c.tc : Thread nD τ).loc main_arg0) : FVec Ideal S32768x1024 .f32) (ix2 (i 0) k))
          (fun k => (m ((c.tc : Thread nD τ).loc main_arg1) : FVec Ideal S1024 .f32) (ix1 k))
          (fun k => (m ((c.tc : Thread nD τ).loc main_arg2) : FVec Ideal S1024x2560 .f32) (ix2 k (i 1))) : FVec Ideal S32768x2560 .f32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run (F := Ideal) m ρ)
  funext i
  obtain ⟨t, j, rfl⟩ : ∃ (t : Fin 32768) (j : Fin 2560), i = ix2 t j := ⟨i 0, i 1, by
    funext a
    match a with
    | ⟨0, _⟩ => rfl
    | ⟨1, _⟩ => rfl⟩
  exact product_at _ _ _ t j

/-- The reference runs, leaves its arguments unchanged and has no counters to leave. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Value.run (F := Ideal) m ρ)

end Cert.Reference2Ideal.Proj

end
-- ==== Proof.Proj.OutKernel.lean ====
/- The output projection's kernel: every tile holds its rows plus two rows of products. -/
module

public import proofs.«01_k».proof.Proof.Proj.Spec
public import proofs.«01_k».proof.Proof.Gen.Kernel3Ideal.Value
public import Idealize.ShloMosaic.Lib.Tactic.CleanTypes
public import Idealize.ShloMosaic.Lib.StableHlo.RunRead
public import Idealize.ShloMosaic.Lib.Pipeline.ValueKit.Point
public import Idealize.ShloMosaic.Lib.Pipeline.Covers

@[expose] public section

set_option maxRecDepth 16384

noncomputable section

namespace Cert.Kernel3Ideal.Proj

open Cert.Kernel3Ideal.Gen Cert.Proj
open Idealize.ShloMosaic Idealize.ShloMosaic.TcCoe Idealize.ShloMosaic.Tactic
open Idealize.SL.Sem

variable (m : (ℓ : Loc nD τ sig) → Buf (Elt Ideal) ℓ) (c : Dev nD)

/-- The attention's rows, the gating unit's rows, the matrix and the layer's input that the run is given. -/
abbrev P : FVec Ideal S32768x512 .f32 := m ((c : Thread nD τ).loc main_arg0)
abbrev Q : FVec Ideal S32768x512 .f32 := m ((c : Thread nD τ).loc main_arg1)
abbrev M : FVec Ideal S1024x1024 .f32 := m ((c : Thread nD τ).loc main_arg2)
abbrev X : FVec Ideal S32768x1024 .f32 := m ((c : Thread nD τ).loc main_arg3)

/-- The layer's input plus the joined rows' product with the matrix. -/
def residual (p q : FVec Ideal S32768x512 .f32) (w : FVec Ideal S1024x1024 .f32) (x : FVec Ideal S32768x1024 .f32) : FVec Ideal S32768x1024 .f32 :=
  fun i => added (x i) (joined (fun k => p (ix2 (i 0) k)) (fun k => q (ix2 (i 0) k))) (fun k => w (ix2 k (i 1)))

/-- What the body computes of its blocks. -/
theorem pay_at (x : Vec Ideal S256x1024 .f32) (p : Vec Ideal S256x512 .f32) (a : Vec Ideal S512x1024 .bf16) (q : Vec Ideal S256x512 .f32)
    (b : Vec Ideal S512x1024 .bf16) (r : Fin 256) (j : Fin 1024) :
    k0_pay1 (F := Ideal) x p a q b (ix2 r j)
      = (x (ix2 r j) : EReal) + (∑ k, (p (ix2 r k) * a (ix2 k j) : EReal)) + ∑ k, (q (ix2 r k) * b (ix2 k j) : EReal) := by
  pointwise [k0_pay1]

theorem idx0 : ∀ i : grid0.Coords, cc0_transform_0 i = ![(i 0).val, 0] := by decide +kernel
theorem idx1 : ∀ i : grid0.Coords, cc0_transform_1 i = ![(i 0).val, 0] := by decide +kernel
theorem idx2 : ∀ i : grid0.Coords, cc0_transform_2 i = ![0, 0] := by decide +kernel
theorem idx3 : ∀ i : grid0.Coords, cc0_transform_3 i = ![0, 0] := by decide +kernel
theorem idx4 : ∀ i : grid0.Coords, cc0_transform_4 i = ![(i 0).val, 0] := by decide +kernel
theorem idx5 : ∀ i : grid0.Coords, cc0_transform_5 i = ![(i 0).val, 0] := by decide +kernel

/-- The tile of a point. -/
def tile (t : Fin cfg0.N) : Fin 128 := grid0.coords t 0

/-- Its row `r` in the array. -/
def row (t : Fin cfg0.N) (r : Fin 256) : Fin 32768 := ⟨256 * (tile t).val + r.val, by
  have := (tile t).isLt
  omega⟩

/-- A block of the attention's rows. -/
theorem left_at (t : Fin cfg0.N) (r : Fin 256) (k : Fin 512) : iblk m c 0 t (ix2 r k) = P m c (ix2 (row t r) k) := by
  have h0 : win0_0.index t 0 = (tile t).val := congrFun (idx0 (grid0.coords t)) 0
  have h1 : win0_0.index t 1 = 0 := congrFun (idx0 (grid0.coords t)) 1
  blk_ext [iblk, V, row]
  all_goals omega

/-- A block of the gating unit's rows. -/
theorem right_at (t : Fin cfg0.N) (r : Fin 256) (k : Fin 512) : iblk m c 1 t (ix2 r k) = Q m c (ix2 (row t r) k) := by
  have h0 : win0_1.index t 0 = (tile t).val := congrFun (idx1 (grid0.coords t)) 0
  have h1 : win0_1.index t 1 = 0 := congrFun (idx1 (grid0.coords t)) 1
  blk_ext [iblk, V, row]
  all_goals omega

/-- A block of the layer's input. -/
theorem input_at (t : Fin cfg0.N) (r : Fin 256) (j : Fin 1024) : iblk m c 4 t (ix2 r j) = X m c (ix2 (row t r) j) := by
  have h0 : win0_4.index t 0 = (tile t).val := congrFun (idx4 (grid0.coords t)) 0
  have h1 : win0_4.index t 1 = 0 := congrFun (idx4 (grid0.coords t)) 1
  blk_ext [iblk, V, row]
  all_goals omega

/-- The matrix's upper half, whole at every point. -/
theorem upper_at (t : Fin cfg0.N) (k : Fin 512) (j : Fin 1024) : iblk m c 2 t (ix2 k j) = M m c (ix2 ⟨k.val, by omega⟩ j) := by
  have h0 : win0_2.index t 0 = 0 := congrFun (idx2 (grid0.coords t)) 0
  have h1 : win0_2.index t 1 = 0 := congrFun (idx2 (grid0.coords t)) 1
  have e : (V m c main_v1 : Vec Ideal S512x1024 .bf16) (ix2 k j) = M m c (ix2 ⟨k.val, by omega⟩ j) := by
    unfold V hostOps0
    after_reads_simp
    pointwise
    blk_ext []
  rw [← e]
  blk_ext [iblk]
  all_goals omega

/-- The matrix's lower half, whole at every point. -/
theorem lower_at (t : Fin cfg0.N) (k : Fin 512) (j : Fin 1024) : iblk m c 3 t (ix2 k j) = M m c (ix2 ⟨512 + k.val, by omega⟩ j) := by
  have h0 : win0_3.index t 0 = 0 := congrFun (idx3 (grid0.coords t)) 0
  have h1 : win0_3.index t 1 = 0 := congrFun (idx3 (grid0.coords t)) 1
  have e : (V m c main_v3 : Vec Ideal S512x1024 .bf16) (ix2 k j) = M m c (ix2 ⟨512 + k.val, by omega⟩ j) := by
    unfold V hostOps0
    after_reads_simp
    pointwise
    blk_ext []
  rw [← e]
  blk_ext [iblk]
  all_goals omega

theorem zeros : (![0, 0] : Fin 2 → ℕ) = fun _ => 0 := funext fun a => match a with
  | ⟨0, _⟩ => rfl
  | ⟨1, _⟩ => rfl

theorem residual_at (p q : FVec Ideal S32768x512 .f32) (w : FVec Ideal S1024x1024 .f32) (x : FVec Ideal S32768x1024 .f32) (i : Fin 32768) (j : Fin 1024) :
    residual p q w x (ix2 i j) = added (x (ix2 i j)) (joined (fun k => p (ix2 i k)) (fun k => q (ix2 i k))) (fun k => w (ix2 k j)) := rfl

/-- What a point stores at a row and a column of its tile. -/
theorem stored_at (t : Fin cfg0.N) (r : Fin 256) (j : Fin 1024) :
    out0_5 (iblk m c 0 t) (iblk m c 1 t) (iblk m c 2 t) (iblk m c 3 t) (iblk m c 4 t) (ix2 r j)
      = residual (P m c) (Q m c) (M m c) (X m c) (ix2 (row t r) j) := by
  unfold out0_5
  rw [View.canon_unit_zero zeros, View.ld_unit_zero zeros, View.ld_unit_zero zeros, View.ld_unit_zero zeros, View.ld_unit_zero zeros, View.ld_unit_zero zeros]
  refine (pay_at _ _ _ _ _ r j).trans ?_
  rw [residual_at, added_joined]
  refine congrArg₂ (· + ·) (congrArg₂ (· + ·) (input_at m c t r j) (Finset.sum_congr rfl fun k _ => ?_)) (Finset.sum_congr rfl fun k _ => ?_)
  · exact congrArg₂ (· * ·) (left_at m c t r k) (upper_at m c t k j)
  · exact congrArg₂ (· * ·) (right_at m c t r k) (lower_at m c t k j)

/-- The tiles cover the array. -/
theorem covered : (cfg0.win 5).Covers :=
  (cfg0.win 5).covers_of_indexMap_surj rfl (by decide) fun β => by
    have l0 : (β 0).val < 128 := (β 0).isLt
    have l1 : (β 1).val < 1 := (β 1).isLt
    let i : grid0.Coords := fun a => match a with
      | ⟨0, _⟩ => ⟨(β 0).val, l0⟩
    have h := idx5 i
    refine ⟨i, fun a => ?_⟩
    refine (congrFun h a).trans ?_
    match a with
    | ⟨0, _⟩ => rfl
    | ⟨1, _⟩ => exact (Nat.lt_one_iff.mp l1).symm

/-- An entry of a tile of the result, in the array. -/
theorem tile_at (A : FVec Ideal S32768x1024 .f32) (t : Fin cfg0.N) (r : Fin 256) (j : Fin 1024) :
    A (ix2 (row t r) j) = ((cfg0.win 5).blk t).view.read (Elt Ideal) A (ix2 r j) := by
  have h0 : win0_5.index t 0 = (tile t).val := congrFun (idx5 (grid0.coords t)) 0
  have h1 : win0_5.index t 1 = 0 := congrFun (idx5 (grid0.coords t)) 1
  blk_ext [iblk, row]
  all_goals omega

/-- Every index of a tile is a row and a column. -/
theorem entry (y : S256x1024.Idx) : ∃ (r : Fin 256) (j : Fin 1024), y = ix2 r j := ⟨y 0, y 1, by
  funext a
  match a with
  | ⟨0, _⟩ => rfl
  | ⟨1, _⟩ => rfl⟩

/-- What a point writes back is its tile of an array with the entries that it stores. -/
theorem written (A : FVec Ideal S32768x1024 .f32) (t : Fin cfg0.N) (B : Vec Ideal S256x1024 .f32)
    (h : ∀ r j, B (ix2 r j) = A (ix2 (row t r) j)) (y : S256x1024.Idx) :
    B y = ((cfg0.win 5).blk t).view.read (Elt Ideal) A y := by
  obtain ⟨r, j, rfl⟩ := entry y
  exact (h r j).trans (tile_at A t r j)

/-- The array after the grid is the layer's input plus the products. -/
theorem array : (dats m 0 c).arrAt 5 cfg0.N = residual (P m c) (Q m c) (M m c) (X m c) :=
  (dats m 0 c).arrAt_eq_of_covers 5 _ covered fun t hf y => by
    rw [after0_5]
    have hs := stored_at m c t
    generalize out0_5 (iblk m c 0 t) (iblk m c 1 t) (iblk m c 2 t) (iblk m c 3 t) (iblk m c 4 t) = B at hs ⊢
    generalize residual (P m c) (Q m c) (M m c) (X m c) = A at hs ⊢
    exact written A t B hs y

variable (ρ : Dev nD → PrngReg)

/-- The kernel's run leaves the layer's input plus the products in its result and its arguments as they were. -/
theorem run_residual : θ_run defs (onTc (τ := τ) (main (F := Ideal))) ⟨m, fun _ => 0, ρ⟩ (fun r => ∀ c : Dev nD,
      r.2.mem ((c.tc : Thread nD τ).loc main_v4) = residual (P m c) (Q m c) (M m c) (X m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (array m c), (h c).2⟩) (Value.run_blocks m ρ)

end Cert.Kernel3Ideal.Proj

end
-- ==== Proof.Proj.OutRef.lean ====
/- The output projection's reference: each entry plus a joined row against a column. -/
module

public import proofs.«01_k».proof.Proof.Proj.Spec
public import proofs.«01_k».proof.Proof.Gen.Reference3Ideal.Run
public import Idealize.ShloMosaic.Lib.Quiescent

@[expose] public section

set_option maxRecDepth 16384

noncomputable section

namespace Cert.Reference3Ideal.Proj

open Cert.Reference3Ideal.Gen Cert.Proj
open Idealize.ShloMosaic Idealize.ShloMosaic.TcCoe Idealize.ShloMosaic.Tactic Idealize.ShloMosaic.StableHlo
open Idealize.SL.Sem

/-- Two arrays of 512 columns joined, read at an entry. -/
theorem joined_at (p q : FVec Ideal S32768x512 .f32) (t : Fin 32768) (k : Fin 1024) :
    concatenate S32768x1024 1 [⟨S32768x512, p⟩, ⟨S32768x512, q⟩] concatenates_S32768x512_S32768x512_S32768x1024_d1 (ix2 t k)
      = joined (fun k => p (ix2 t k)) (fun k => q (ix2 t k)) k := by
  unfold joined
  pointwise

/-- The host's sum and product, read at an entry. -/
theorem product_at (A : FVec Ideal S32768x1024 .f32) (w : FVec Ideal S1024x1024 .f32) (x : FVec Ideal S32768x1024 .f32) (t : Fin 32768) (j : Fin 1024) :
    addf x (Host.dotGeneral dot_S32768x1024_S1024x1024_S32768x1024_1_0_0_1_n_n none A w) (ix2 t j)
      = added (x (ix2 t j)) (fun k => A (ix2 t k)) (fun k => w (ix2 k j)) := by
  pointwise
  rfl

variable (m : (ℓ : Loc nD τ sig) → Buf (Elt Ideal) ℓ) (ρ : Dev nD → PrngReg)

/-- The reference's run leaves its last argument plus the joined rows' products in its result, and its arguments as they were. -/
theorem run_residual : θ_run defs (onTc (τ := τ) (main (F := Ideal))) ⟨m, fun _ => 0, ρ⟩ fun r => ∀ c : Dev nD,
      (r.2.mem ((c.tc : Thread nD τ).loc main_v2) = (fun i => added
          ((m ((c.tc : Thread nD τ).loc main_arg3) : FVec Ideal S32768x1024 .f32) i)
          (joined (fun k => (m ((c.tc : Thread nD τ).loc main_arg0) : FVec Ideal S32768x512 .f32) (ix2 (i 0) k))
            (fun k => (m ((c.tc : Thread nD τ).loc main_arg1) : FVec Ideal S32768x512 .f32) (ix2 (i 0) k)))
          (fun k => (m ((c.tc : Thread nD τ).loc main_arg2) : FVec Ideal S1024x1024 .f32) (ix2 k (i 1))) : FVec Ideal S32768x1024 .f32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Value.run (F := Ideal) m ρ)
  funext i
  obtain ⟨t, j, rfl⟩ : ∃ (t : Fin 32768) (j : Fin 1024), i = ix2 t j := ⟨i 0, i 1, by
    funext a
    match a with
    | ⟨0, _⟩ => rfl
    | ⟨1, _⟩ => rfl⟩
  exact (product_at _ _ _ t j).trans (congrArg₂ (added _) (funext fun k => joined_at _ _ t k) rfl)

/-- The reference runs, leaves its arguments unchanged and has no counters to leave. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Value.run (F := Ideal) m ρ)

end Cert.Reference3Ideal.Proj

end
-- ==== Proof.Proj.SguSpec.lean ====
/- The spatial gating unit, entry by entry over the extended reals. -/
module

public import Idealize.ShloMosaic.Lib.Claim
public import Idealize.ShloMosaic.Lib.Pointwise

@[expose] public section

noncomputable section

namespace Cert.Sgu

open Idealize.ShloMosaic

/-- The gelu by its tanh form. -/
def gelu (x : EReal) : EReal :=
  x * (Ideal.ofBits FTy.f32 0x3F000000#32 * (1 + Ideal.tanh (Ideal.ofBits FTy.f32 0x3F4C422A#32
    * (x + Ideal.ofBits FTy.f32 0x3D372713#32 * (x * x * x)))))

/-- The mean of a group's 64 numbers. -/
def mean (a : Fin 64 → EReal) : EReal := Ideal.div (∑ k, a k) (Ideal.ofBits FTy.f32 0x42800000#32)

/-- A number of a group, normalised by the group's mean and variance and weighted by `γ`. -/
def unit (a : Fin 64 → EReal) (x γ : EReal) : EReal :=
  (x - mean a) * Ideal.rsqrt (mean (fun k => (a k - mean a) * (a k - mean a)) + Ideal.ofBits FTy.f32 0x3727C5AC#32) * γ

/-- The column of the `j`-th gated number, of its gate, and of the `k`-th gate of its group. -/
def ucol (j : Fin 512) : Fin 2560 := ⟨1536 + j.val, by omega⟩
def gcol (j : Fin 512) : Fin 2560 := ⟨1536 + (512 + j.val), by omega⟩
def kcol (j : Fin 512) (k : Fin 64) : Fin 2560 := ⟨1536 + (512 + (j.val / 64 * 64 + k.val)), by omega⟩

/-- The group of a column, its place in the group, and the column of the `k`-th of the group. -/
def grp (j : Fin 512) : Fin 8 := ⟨j.val / 64, by omega⟩
def sub (j : Fin 512) : Fin 64 := ⟨j.val % 64, by omega⟩
def mate (j : Fin 512) (k : Fin 64) : Fin 512 := ⟨j.val / 64 * 64 + k.val, by omega⟩

/-- The row `x` of the chunk that the row `t` is in, and the place of `t` in it. -/
def chunkRow (t : Fin 32768) (x : Fin 128) : Fin 32768 := ⟨t.val / 128 * 128 + x.val, by omega⟩
def place (t : Fin 32768) : Fin 128 := ⟨t.val % 128, by omega⟩

/-- The gating unit's entry at the row `t` and the column `j`: the gelu of the number gated, times the chunk's normalised
    gates up to the row's place, mixed by the row of `w`, plus the place's number of `b`. -/
def gated (z : Fin 32768 → Fin 2560 → EReal) (γ : Fin 8 → Fin 64 → EReal) (w : Fin 8 → Fin 128 → Fin 128 → EReal)
    (b : Fin 8 → Fin 128 → EReal) (t : Fin 32768) (j : Fin 512) : EReal :=
  gelu (z t (ucol j)) * ((∑ x : Fin 128, if x ≤ place t then
      unit (fun k => gelu (z (chunkRow t x) (kcol j k))) (gelu (z (chunkRow t x) (gcol j))) (γ (grp j) (sub j))
        * w (grp j) (place t) x
    else 0) + b (grp j) (place t))

/-- The signed comparison of two numbers below 128, as it is printed. -/
theorem ge_at : ∀ a b : Fin 128, IntOp.cmpi CmpIPredicate.sge (IntOp.addi (BitVec.ofNat 32 a.val) 0#32) (BitVec.ofNat 32 b.val)
    = BitVec.ofBool (decide (b ≤ a)) := by decide +kernel

/-- A choice by that comparison. -/
theorem select_ge (a b : Fin 128) (x y : EReal) :
    Scalar.select (IntOp.cmpi CmpIPredicate.sge (IntOp.addi (BitVec.ofNat 32 a.val) 0#32) (BitVec.ofNat 32 b.val)) x y
      = if b ≤ a then x else y := by
  rw [ge_at]
  by_cases h : b ≤ a
  · rw [if_pos h, decide_eq_true h]; rfl
  · rw [if_neg h, decide_eq_false h]; rfl

end Cert.Sgu

end
-- ==== Proof.Proj.SguMean.lean ====
/- The kernel's group means: a product with a table of 1/64 and zero is the mean of the group's numbers. -/
module

public import proofs.«01_k».proof.Proof.Proj.SguSpec
public import proofs.«01_k».proof.Proof.Attn.Real

@[expose] public section

noncomputable section

namespace Cert.Sgu

open Idealize.ShloMosaic Cert.Attn

theorem sixtyFour : Ideal.ofBits FTy.f32 0x42800000#32 = ((64 : ℝ) : EReal) := by
  simp [Ideal.ofBits, Ideal.ieee]; rw [← EReal.coe_mul]; norm_num

/-- A sum of numbers each times a positive real is the sum times it. -/
theorem sum_times {ι : Type} (S : Finset ι) (f : ι → EReal) {r : ℝ} (hr : 0 ≤ r) : ∑ k ∈ S, f k * (r : EReal) = (∑ k ∈ S, f k) * (r : EReal) := by
  classical
  induction S using Finset.induction_on with
  | empty => rw [Finset.sum_empty, Finset.sum_empty, zero_mul]
  | insert k S hk ih =>
    rw [Finset.sum_insert hk, Finset.sum_insert hk, ih,
      EReal.right_distrib_of_nonneg_of_ne_top (EReal.coe_nonneg.mpr hr) (EReal.coe_ne_top r)]

/-- The mean is the sum times 1/64. -/
theorem mean_eq (a : Fin 64 → EReal) : mean a = (∑ k, a k) * ((1 / 64 : ℝ) : EReal) := by
  rw [mean, sixtyFour, Ideal.div_coe (by norm_num), one_div]

/-- A sum over the columns is a sum over the groups and the places in them. -/
theorem sum_groups (f : Fin 512 → EReal) : ∑ k, f k = ∑ h : Fin 8, ∑ d : Fin 64, f ⟨h.val * 64 + d.val, by omega⟩ := by
  rw [← Fintype.sum_prod_type' (f := fun (h : Fin 8) (d : Fin 64) => f ⟨h.val * 64 + d.val, by omega⟩)]
  refine (Fintype.sum_equiv (finProdFinEquiv (m := 8) (n := 64)) _ _ fun p => ?_).symm
  refine congrArg f (Fin.ext ?_)
  show p.1.val * 64 + p.2.val = p.2.val + 64 * p.1.val
  omega

/-- The entry of the table of means. -/
def avgAt (k j : Fin 512) : EReal := if grp k = grp j then ((1 / 64 : ℝ) : EReal) else 0

/-- The product of a row with a column of the table is the mean of the column's group. -/
theorem group_mean (y : Fin 512 → EReal) (j : Fin 512) : ∑ k, y k * avgAt k j = mean (fun d => y (mate j d)) := by
  rw [sum_groups, Finset.sum_eq_single (grp j), mean_eq, ← sum_times _ _ (by norm_num)]
  · refine Finset.sum_congr rfl fun d _ => ?_
    have hg : grp (mate j d) = grp j := Fin.ext (by
      show (j.val / 64 * 64 + d.val) / 64 = j.val / 64
      omega)
    show y (mate j d) * (if grp (mate j d) = grp j then ((1 / 64 : ℝ) : EReal) else 0) = _
    rw [if_pos hg]
  · intro h _ hne
    refine Finset.sum_eq_zero fun d _ => ?_
    have hg : grp ⟨h.val * 64 + d.val, by omega⟩ = h := Fin.ext (by
      show (h.val * 64 + d.val) / 64 = h.val
      omega)
    rw [avgAt, hg, if_neg hne, mul_zero]
  · intro h
    exact absurd (Finset.mem_univ _) h

/-- The kernel's eight masked products are the one with the column's own group. -/
theorem pick (g : Fin 8) (w : Fin 8 → Fin 128 → EReal) (n : Fin 128 → EReal) (b : EReal) :
    b + ∑ x, Scalar.select (IntOp.cmpi CmpIPredicate.eq (BitVec.ofNat 32 g.val) 0#32) (w 0 x * n x) 0
      + ∑ x, w 1 x * Scalar.select (IntOp.cmpi CmpIPredicate.eq (BitVec.ofNat 32 g.val) 1#32) (n x) 0
      + ∑ x, Scalar.select (IntOp.cmpi CmpIPredicate.eq (BitVec.ofNat 32 g.val) 2#32) (w 2 x * n x) 0
      + ∑ x, Scalar.select (IntOp.cmpi CmpIPredicate.eq (BitVec.ofNat 32 g.val) 3#32) (w 3 x * n x) 0
      + ∑ x, Scalar.select (IntOp.cmpi CmpIPredicate.eq (BitVec.ofNat 32 g.val) 4#32) (w 4 x * n x) 0
      + ∑ x, w 5 x * Scalar.select (IntOp.cmpi CmpIPredicate.eq (BitVec.ofNat 32 g.val) 5#32) (n x) 0
      + ∑ x, Scalar.select (IntOp.cmpi CmpIPredicate.eq (BitVec.ofNat 32 g.val) 6#32) (w 6 x * n x) 0
      + ∑ x, Scalar.select (IntOp.cmpi CmpIPredicate.eq (BitVec.ofNat 32 g.val) 7#32) (w 7 x * n x) 0
      = ∑ x, n x * w g x + b := by
  rw [add_comm (∑ x, n x * w g x) b, Finset.sum_congr rfl fun x _ => mul_comm (n x) (w g x)]
  fin_cases g <;> simp [Scalar.select, IntOp.cmpi]

end Cert.Sgu

end
-- ==== Proof.Proj.SguTables.lean ====
/- The spatial gating unit's kernel: the tables its host makes of its arguments. -/
module

public import proofs.«01_k».proof.Proof.Proj.SguMean
public import proofs.«01_k».proof.Proof.Gen.Kernel4Ideal.Value
public import Idealize.ShloMosaic.Lib.StableHlo.RunRead

@[expose] public section

set_option maxRecDepth 16384

noncomputable section

namespace Cert.Kernel4Ideal.Proj

open Cert.Kernel4Ideal.Gen Cert.Sgu
open Idealize.ShloMosaic Idealize.ShloMosaic.TcCoe Idealize.ShloMosaic.Tactic

variable (m : (ℓ : Loc nD τ sig) → Buf (Elt Ideal) ℓ) (c : Dev nD)

/-- The four arguments, by their places. -/
abbrev Z (t : Fin 32768) (j : Fin 2560) : EReal := (m ((c.tc : Thread nD τ).loc main_arg0) : FVec Ideal S32768x2560 .f32) (ix2 t j)
abbrev G (h : Fin 8) (d : Fin 64) : EReal := (m ((c.tc : Thread nD τ).loc main_arg1) : FVec Ideal S8x64 .f32) (ix2 h d)
abbrev W (h : Fin 8) (p x : Fin 128) : EReal := (m ((c.tc : Thread nD τ).loc main_arg2) : FVec Ideal S8x128x128 .f32) (ix3 h p x)
abbrev B (h : Fin 8) (p : Fin 128) : EReal := (m ((c.tc : Thread nD τ).loc main_arg3) : FVec Ideal S8x128 .f32) (ix2 h p)

/-- The host's quotient by 64, rounded down, is the column's group. -/
theorem hostGroup_at : ∀ j : Fin 512, Scalar.select
      (IntOp.andi
        (IntOp.cmpi CmpIPredicate.ne
          (if BitVec.ofNat 32 j.val = 0 then (0 : BitVec 32) else if (BitVec.ofNat 32 j.val).msb = true then -1 else 1)
          (if 64#32 = 0 then (0 : BitVec 32) else if (64#32).msb = true then -1 else 1))
        (IntOp.cmpi CmpIPredicate.ne (IntOp.remsi ArithUnit.host (BitVec.ofNat 32 j.val) 64#32) 0#32))
      (IntOp.subi (IntOp.divsi ArithUnit.host (BitVec.ofNat 32 j.val) 64#32) 1#32)
      (IntOp.divsi ArithUnit.host (BitVec.ofNat 32 j.val) 64#32) = BitVec.ofNat 32 (grp j).val := by decide +kernel

/-- The body's quotient by 64, rounded down, is the column's group. -/
theorem bodyGroup_at : ∀ j : Fin 512, Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 j.val) 64#32) 0#32))
      (IntOp.subi (IntOp.divsi ArithUnit.vector (BitVec.ofNat 32 j.val) 64#32) 1#32)
      (IntOp.divsi ArithUnit.vector (BitVec.ofNat 32 j.val) 64#32) = BitVec.ofNat 32 (grp j).val := by decide +kernel

/-- Whether two of the eight groups are one. -/
theorem sameGroup : ∀ g h : Fin 8, IntOp.cmpi CmpIPredicate.eq (BitVec.ofNat 32 g.val) (BitVec.ofNat 32 h.val)
    = BitVec.ofBool (decide (g = h)) := by decide +kernel

theorem ratio (g h : Fin 8) : Ideal.div (FloatOps.uitofp (F := Ideal) FTy.f32 (BitVec.ofBool (decide (g = h)))) (Ideal.ofBits FTy.f32 0x42800000#32)
    = if g = h then ((1 / 64 : ℝ) : EReal) else 0 := by
  rw [sixtyFour, Ideal.div_coe (by norm_num)]
  by_cases e : g = h
  · rw [if_pos e, decide_eq_true e]
    show (((BitVec.ofBool true).toNat : ℝ) : EReal) * _ = _
    simp
  · rw [if_neg e, decide_eq_false e]
    show (((BitVec.ofBool false).toNat : ℝ) : EReal) * _ = _
    simp

/-- The table of means. -/
theorem table_at (k j : Fin 512) : (V m c main_v9 : Vec Ideal S512x512 .f32) (ix2 k j) = avgAt k j := by
  unfold V hostOps0 hostOps0_1 hostOps0_2 hostOps0_3 hostOps0_4
  after_reads_simp
  simp only [StableHlo.TRef.toBuf, StableHlo.TRef.ofBuf, cast_eq, id]
  pointwise
  refine (congrArg (fun v => Ideal.div (FloatOps.uitofp (F := Ideal) FTy.f32 v) (Ideal.ofBits FTy.f32 0x42800000#32))
    ((congrArg₂ (IntOp.cmpi CmpIPredicate.eq) (hostGroup_at k) (hostGroup_at j)).trans (sameGroup (grp k) (grp j)))).trans ?_
  exact ratio (grp k) (grp j)

/-- The weights of the norm, one to a column. -/
theorem weights_at (k : Fin 512) : (V m c main_v10 : Vec Ideal S1x512 .f32) (ix2 0 k) = G m c (grp k) (sub k) := by
  unfold V hostOps0 hostOps0_1 hostOps0_2 hostOps0_3 hostOps0_4
  after_reads_simp
  pointwise
  rfl

/-- The mixing matrices, with what is above the diagonal dropped. -/
theorem mix_at (h : Fin 8) (p x : Fin 128) :
    (V m c main_v12 : Vec Ideal S8x128x128 .bf16) (ix3 h p x) = if x ≤ p then W m c h p x else 0 := by
  unfold V hostOps0 hostOps0_1 hostOps0_2 hostOps0_3 hostOps0_4
  after_reads_simp
  simp only [StableHlo.TRef.toBuf, StableHlo.TRef.ofBuf, cast_eq, id]
  pointwise
  exact select_ge p x _ _

/-- The added numbers, one to a column. -/
theorem bias_at (p : Fin 128) (k : Fin 512) : (V m c main_v15 : Vec Ideal S128x512 .f32) (ix2 p k) = B m c (grp k) p := by
  unfold V hostOps0 hostOps0_1 hostOps0_2 hostOps0_3 hostOps0_4
  after_reads_simp
  pointwise
  rfl

end Cert.Kernel4Ideal.Proj

end
-- ==== Proof.Proj.SguBody.lean ====
/- The spatial gating unit's kernel: what its body computes of its blocks. -/
module

public import proofs.«01_k».proof.Proof.Proj.SguTables
public import Idealize.ShloMosaic.Lib.Pipeline.ValueKit.Point

@[expose] public section

set_option maxRecDepth 16384

noncomputable section

namespace Cert.Kernel4Ideal.Proj

open Cert.Kernel4Ideal.Gen Cert.Sgu
open Idealize.ShloMosaic Idealize.ShloMosaic.TcCoe Idealize.ShloMosaic.Tactic

/-- The gelu as the body computes it. -/
theorem gelu_body (x : EReal) : x * (Ideal.ofBits FTy.f32 0x3F000000#32 * (1 + Ideal.tanh (Ideal.ofBits FTy.f32 0x3F4C422A#32
    * (x + Ideal.ofBits FTy.f32 0x3D372713#32 * (x * (x * x)))))) = gelu x := by
  rw [gelu, mul_assoc x x x]

theorem gelu_at (x : Vec Ideal S128x512 .f32) (r : Fin 128) (j : Fin 512) : k0_pay2 (F := Ideal) x (ix2 r j) = gelu (x (ix2 r j)) := by
  pointwise [k0_pay2]
  exact gelu_body _

theorem group_at (r : Fin 128) (j : Fin 512) : k0_pay6 (ix2 r j) = BitVec.ofNat 32 (grp j).val := by
  pointwise [k0_pay6]
  exact bodyGroup_at j

variable (x : Vec Ideal S128x512 .f32) (a : Vec Ideal S512x512 .f32) (g : Vec Ideal S1x512 .f32)

/-- The gates of the group of `j` in the row `r` of a block. -/
def gates (r : Fin 128) (j : Fin 512) (k : Fin 64) : EReal := gelu (x (ix2 r (mate j k)))

/-- The gates of a row and a group have the group's mean at each of them. -/
theorem gates_mate (r : Fin 128) (j : Fin 512) (d : Fin 64) : gates x r (mate j d) = gates x r j := funext fun k => by
  have e : mate (mate j d) k = mate j k := Fin.ext (by
    show (j.val / 64 * 64 + d.val) / 64 * 64 + k.val = j.val / 64 * 64 + k.val
    omega)
  rw [gates, gates, e]

variable (ha : ∀ k j, a (ix2 k j) = avgAt k j)

include ha in
/-- The normalised gates. -/
theorem unit_at (r : Fin 128) (j : Fin 512) :
    k0_pay5 (F := Ideal) (k0_pay3 x a) (k0_pay4 g) (ix2 r j) = unit (gates x r j) (gelu (x (ix2 r j))) (g (ix2 0 j)) := by
  have h4 : k0_pay4 (F := Ideal) g (ix2 0 j) = g (ix2 0 j) := by
    pointwise [k0_pay4]
  have h3 : k0_pay3 (F := Ideal) x a (ix2 r j) = (gelu (x (ix2 r j)) - mean (gates x r j))
      * Ideal.rsqrt (mean (fun k => (gates x r j k - mean (gates x r j)) * (gates x r j k - mean (gates x r j))) + Ideal.ofBits FTy.f32 0x3727C5AC#32) := by
    pointwise [k0_pay3]
    simp only [gelu_body, ha, group_mean fun k => gelu (x (ix2 r k))]
    have hm : ∀ k, mean (fun d => gelu (x (ix2 r (mate k d)))) = mean (gates x r k) := fun _ => rfl
    simp only [hm]
    rw [group_mean fun k => (gelu (x (ix2 r k)) - mean (gates x r k)) * (gelu (x (ix2 r k)) - mean (gates x r k))]
    simp only [gates_mate]
    rfl
  generalize k0_pay3 (F := Ideal) x a = y at h3 ⊢
  generalize k0_pay4 (F := Ideal) g = y' at h4 ⊢
  pointwise [k0_pay5]
  rw [h3, h4]
  rfl

variable (u : Vec Ideal S128x512 .f32) (b : Vec Ideal S128x512 .f32) (w : Fin 8 → Vec Ideal S1x128x128 .bf16)

/-- The body's eight masked products, of any normalised gates. -/
theorem mixed_at (v y : FVec Ideal S128x512 .f32) (y' : FVec Ideal S1x512 .f32) (r : Fin 128) (j : Fin 512) :
    k0_pay1 (F := Ideal) v (k0_pay5 y y') k0_pay6
        (k0_pay9 (k0_pay5 y y') k0_pay6 (k0_pay7 y y' b (w 0)) (k0_pay8 y y') (w 1) (w 2) (w 3) (w 4))
        (k0_pay10 (k0_pay5 y y') k0_pay6) (w 5) (w 6) (w 7) (ix2 r j)
      = v (ix2 r j) * (∑ k, k0_pay5 (F := Ideal) y y' (ix2 k j) * w (grp j) (ix3 0 r k) + b (ix2 r j)) := by
  have h5 : ∀ k, k0_pay5 (F := Ideal) y y' (ix2 k j) = y (ix2 k j) * y' (ix2 0 j) := fun k => by
    pointwise [k0_pay5]
  have h8 : ∀ k, k0_pay8 (F := Ideal) y y' (ix2 k j)
      = Scalar.select (IntOp.cmpi CmpIPredicate.eq (BitVec.ofNat 32 (grp j).val) 1#32) (k0_pay5 (F := Ideal) y y' (ix2 k j)) 0 := fun k => by
    pointwise [k0_pay8]
    simp only [h5, group_at]
  have h7 : k0_pay7 (F := Ideal) y y' b (w 0) (ix2 r j) = b (ix2 r j)
      + ∑ k, Scalar.select (IntOp.cmpi CmpIPredicate.eq (BitVec.ofNat 32 (grp j).val) 0#32) (w 0 (ix3 0 r k) * k0_pay5 (F := Ideal) y y' (ix2 k j)) 0 := by
    pointwise [k0_pay7]
    simp only [h5, group_at]
  generalize k0_pay5 (F := Ideal) y y' = N at h7 h8 ⊢
  generalize k0_pay7 (F := Ideal) y y' b (w 0) = s at h7 ⊢
  generalize k0_pay8 (F := Ideal) y y' = f at h8 ⊢
  have h10 : ∀ k, k0_pay10 (F := Ideal) N k0_pay6 (ix2 k j)
      = Scalar.select (IntOp.cmpi CmpIPredicate.eq (BitVec.ofNat 32 (grp j).val) 5#32) (N (ix2 k j)) 0 := fun k => by
    rw [← group_at k j]
    pointwise [k0_pay10]
  have h9 : k0_pay9 (F := Ideal) N k0_pay6 s f (w 1) (w 2) (w 3) (w 4) (ix2 r j)
      = s (ix2 r j) + ∑ k, w 1 (ix3 0 r k) * f (ix2 k j)
          + ∑ k, Scalar.select (IntOp.cmpi CmpIPredicate.eq (k0_pay6 (ix2 k j)) 2#32) (w 2 (ix3 0 r k) * N (ix2 k j)) 0
          + ∑ k, Scalar.select (IntOp.cmpi CmpIPredicate.eq (k0_pay6 (ix2 k j)) 3#32) (w 3 (ix3 0 r k) * N (ix2 k j)) 0
          + ∑ k, Scalar.select (IntOp.cmpi CmpIPredicate.eq (k0_pay6 (ix2 k j)) 4#32) (w 4 (ix3 0 r k) * N (ix2 k j)) 0 := by
    generalize k0_pay6 = q
    pointwise [k0_pay9]
  have h1 : ∀ (s' : FVec Ideal S128x512 .f32) (f' : FVec Ideal S128x512 .bf16),
      k0_pay1 (F := Ideal) v N k0_pay6 s' f' (w 5) (w 6) (w 7) (ix2 r j)
      = v (ix2 r j) * (s' (ix2 r j) + ∑ k, w 5 (ix3 0 r k) * f' (ix2 k j)
          + ∑ k, Scalar.select (IntOp.cmpi CmpIPredicate.eq (k0_pay6 (ix2 k j)) 6#32) (w 6 (ix3 0 r k) * N (ix2 k j)) 0
          + ∑ k, Scalar.select (IntOp.cmpi CmpIPredicate.eq (k0_pay6 (ix2 k j)) 7#32) (w 7 (ix3 0 r k) * N (ix2 k j)) 0) := fun s' f' => by
    generalize k0_pay6 = q
    pointwise [k0_pay1]
  rw [h1, h9, h7]
  simp only [h8, h10, group_at]
  exact congrArg (_ * ·) (pick (grp j) (fun h k => w h (ix3 0 r k)) (fun k => N (ix2 k j)) (b (ix2 r j)))

include ha in
/-- What the body stores: the gelu of the numbers gated, times the normalised gates mixed. -/
theorem body_at (r : Fin 128) (j : Fin 512) :
    k0_pay1 (F := Ideal) (k0_pay2 u) (k0_pay5 (k0_pay3 x a) (k0_pay4 g)) k0_pay6
        (k0_pay9 (k0_pay5 (k0_pay3 x a) (k0_pay4 g)) k0_pay6 (k0_pay7 (k0_pay3 x a) (k0_pay4 g) b (w 0)) (k0_pay8 (k0_pay3 x a) (k0_pay4 g))
          (w 1) (w 2) (w 3) (w 4))
        (k0_pay10 (k0_pay5 (k0_pay3 x a) (k0_pay4 g)) k0_pay6) (w 5) (w 6) (w 7) (ix2 r j)
      = gelu (u (ix2 r j)) * (∑ k, unit (gates x k j) (gelu (x (ix2 k j))) (g (ix2 0 j)) * w (grp j) (ix3 0 r k) + b (ix2 r j)) := by
  refine (mixed_at b w (k0_pay2 u) (k0_pay3 x a) (k0_pay4 g) r j).trans ?_
  rw [gelu_at]
  refine congrArg (_ * ·) (congrArg (· + _) (Finset.sum_congr rfl fun k _ => ?_))
  rw [unit_at x a g ha]

end Cert.Kernel4Ideal.Proj

end
-- ==== Proof.Proj.SguKernel.lean ====
/- The spatial gating unit's kernel: every tile holds the gated numbers of its chunk. -/
module

public import proofs.«01_k».proof.Proof.Proj.SguBody
public import Idealize.ShloMosaic.Lib.Tactic.CleanTypes
public import Idealize.ShloMosaic.Lib.Pipeline.Covers

@[expose] public section

set_option maxRecDepth 16384

noncomputable section

namespace Cert.Kernel4Ideal.Proj

open Cert.Kernel4Ideal.Gen Cert.Sgu
open Idealize.ShloMosaic Idealize.ShloMosaic.TcCoe Idealize.ShloMosaic.Tactic
open Idealize.SL.Sem

variable (m : (ℓ : Loc nD τ sig) → Buf (Elt Ideal) ℓ) (c : Dev nD)

/-- The gating unit of the run's arguments. -/
def gating : FVec Ideal S32768x512 .f32 := fun i => gated (Z m c) (G m c) (W m c) (B m c) (i 0) (i 1)

theorem gating_at (t : Fin 32768) (j : Fin 512) : gating m c (ix2 t j) = gated (Z m c) (G m c) (W m c) (B m c) t j := rfl

theorem idx0 : ∀ i : grid0.Coords, cc0_transform_0 i = ![(i 0).val, 3] := by decide +kernel
theorem idx1 : ∀ i : grid0.Coords, cc0_transform_1 i = ![(i 0).val, 4] := by decide +kernel
theorem idx2 : ∀ i : grid0.Coords, cc0_transform_2 i = ![0, 0] := by decide +kernel
theorem idx3 : ∀ i : grid0.Coords, cc0_transform_3 i = ![0, 0] := by decide +kernel
theorem idx4 : ∀ i : grid0.Coords, cc0_transform_4 i = ![0, 0, 0] := by decide +kernel
theorem idx5 : ∀ i : grid0.Coords, cc0_transform_5 i = ![0, 0] := by decide +kernel
theorem idx6 : ∀ i : grid0.Coords, cc0_transform_6 i = ![(i 0).val, 0] := by decide +kernel

/-- The tile of a point. -/
def tile (t : Fin cfg0.N) : Fin 256 := grid0.coords t 0

/-- Its row `r` in the array. -/
def row (t : Fin cfg0.N) (r : Fin 128) : Fin 32768 := ⟨128 * (tile t).val + r.val, by
  have := (tile t).isLt
  omega⟩

/-- A tile's rows are one chunk. -/
theorem chunk_row (t : Fin cfg0.N) (r x : Fin 128) : chunkRow (row t r) x = row t x := Fin.ext (by
  show (128 * (tile t).val + r.val) / 128 * 128 + x.val = 128 * (tile t).val + x.val
  omega)

theorem place_row (t : Fin cfg0.N) (r : Fin 128) : place (row t r) = r := Fin.ext (by
  show (128 * (tile t).val + r.val) % 128 = r.val
  omega)

/-- The block of the numbers gated. -/
theorem numbers_at (t : Fin cfg0.N) (r : Fin 128) (j : Fin 512) : iblk m c 0 t (ix2 r j) = Z m c (row t r) (ucol j) := by
  have h0 : win0_0.index t 0 = (tile t).val := congrFun (idx0 (grid0.coords t)) 0
  have h1 : win0_0.index t 1 = 3 := congrFun (idx0 (grid0.coords t)) 1
  blk_ext [iblk, V, row, ucol]
  all_goals omega

/-- The block of the gates. -/
theorem gates_at (t : Fin cfg0.N) (r : Fin 128) (j : Fin 512) : iblk m c 1 t (ix2 r j) = Z m c (row t r) (gcol j) := by
  have h0 : win0_1.index t 0 = (tile t).val := congrFun (idx1 (grid0.coords t)) 0
  have h1 : win0_1.index t 1 = 4 := congrFun (idx1 (grid0.coords t)) 1
  blk_ext [iblk, V, row, gcol]
  all_goals omega

/-- The table of means, whole at every point. -/
theorem tableBlock_at (t : Fin cfg0.N) (k j : Fin 512) : iblk m c 2 t (ix2 k j) = avgAt k j := by
  have h0 : win0_2.index t 0 = 0 := congrFun (idx2 (grid0.coords t)) 0
  have h1 : win0_2.index t 1 = 0 := congrFun (idx2 (grid0.coords t)) 1
  rw [← table_at m c k j]
  blk_ext [iblk]
  all_goals omega

/-- The weights of the norm, whole at every point. -/
theorem weightsBlock_at (t : Fin cfg0.N) (j : Fin 512) : iblk m c 3 t (ix2 0 j) = G m c (grp j) (sub j) := by
  have h0 : win0_3.index t 0 = 0 := congrFun (idx3 (grid0.coords t)) 0
  have h1 : win0_3.index t 1 = 0 := congrFun (idx3 (grid0.coords t)) 1
  rw [← weights_at m c j]
  blk_ext [iblk]
  all_goals omega

/-- The mixing matrices, whole at every point. -/
theorem mixBlock_at (t : Fin cfg0.N) (h : Fin 8) (p x : Fin 128) :
    iblk m c 4 t (ix3 h p x) = if x ≤ p then W m c h p x else 0 := by
  have h0 : win0_4.index t 0 = 0 := congrFun (idx4 (grid0.coords t)) 0
  have h1 : win0_4.index t 1 = 0 := congrFun (idx4 (grid0.coords t)) 1
  have h2 : win0_4.index t 2 = 0 := congrFun (idx4 (grid0.coords t)) 2
  rw [← mix_at m c h p x]
  blk_ext [iblk]
  all_goals omega

/-- The added numbers, whole at every point. -/
theorem biasBlock_at (t : Fin cfg0.N) (p : Fin 128) (j : Fin 512) : iblk m c 5 t (ix2 p j) = B m c (grp j) p := by
  have h0 : win0_5.index t 0 = 0 := congrFun (idx5 (grid0.coords t)) 0
  have h1 : win0_5.index t 1 = 0 := congrFun (idx5 (grid0.coords t)) 1
  rw [← bias_at m c p j]
  blk_ext [iblk]
  all_goals omega

theorem zeros : (![0, 0] : Fin 2 → ℕ) = fun _ => 0 := funext fun a => match a with
  | ⟨0, _⟩ => rfl
  | ⟨1, _⟩ => rfl

/-- The loads of the eight mixing matrices. -/
def loaded (w : Vec Ideal S8x128x128 .bf16) : Fin 8 → Vec Ideal S1x128x128 .bf16 :=
  ![View.ld w r0_3, View.ld w r0_4, View.ld w r0_5, View.ld w r0_6, View.ld w r0_7, View.ld w r0_8, View.ld w r0_9, View.ld w r0_10]

theorem loaded_at (w : Vec Ideal S8x128x128 .bf16) (h : Fin 8) (p x : Fin 128) : loaded w h (ix3 0 p x) = w (ix3 h p x) := by
  fin_cases h <;> (refine View.ld_unit_apply_of _ _ _ _ _ _ fun a => ?_; fin_cases a <;> simp)

/-- What the body stores, of its whole blocks. -/
theorem stored_eq (x0 x1 : Vec Ideal S128x512 .f32) (x2 : Vec Ideal S512x512 .f32) (x3 : Vec Ideal S1x512 .f32)
    (x4 : Vec Ideal S8x128x128 .bf16) (x5 : Vec Ideal S128x512 .f32) :
    out0_6 x0 x1 x2 x3 x4 x5 = k0_pay1 (k0_pay2 x0) (k0_pay5 (k0_pay3 x1 x2) (k0_pay4 x3)) k0_pay6
      (k0_pay9 (k0_pay5 (k0_pay3 x1 x2) (k0_pay4 x3)) k0_pay6 (k0_pay7 (k0_pay3 x1 x2) (k0_pay4 x3) x5 (loaded x4 0))
        (k0_pay8 (k0_pay3 x1 x2) (k0_pay4 x3)) (loaded x4 1) (loaded x4 2) (loaded x4 3) (loaded x4 4))
      (k0_pay10 (k0_pay5 (k0_pay3 x1 x2) (k0_pay4 x3)) k0_pay6) (loaded x4 5) (loaded x4 6) (loaded x4 7) := by
  have l0 : ∀ x : Vec Ideal S128x512 .f32, View.ld x r0_0 = x := fun x => View.ld_unit_zero zeros _ x
  have l1 : View.ld x2 r0_1 = x2 := View.ld_unit_zero zeros _ x2
  have l2 : View.ld x3 r0_2 = x3 := View.ld_unit_zero zeros _ x3
  unfold out0_6 k0_pay13 k0_pay14 k0_pay11 k0_pay12
  rw [View.canon_unit_zero zeros, l0, l0, l0, l1, l2]
  rfl

/-- What a point stores at a row and a column of its tile. -/
theorem stored_at (t : Fin cfg0.N) (r : Fin 128) (j : Fin 512) :
    out0_6 (iblk m c 0 t) (iblk m c 1 t) (iblk m c 2 t) (iblk m c 3 t) (iblk m c 4 t) (iblk m c 5 t) (ix2 r j)
      = gating m c (ix2 (row t r) j) := by
  have hb := body_at (iblk m c 1 t) (iblk m c 2 t) (iblk m c 3 t) (tableBlock_at m c t)
    (iblk m c 0 t) (iblk m c 5 t) (loaded (iblk m c 4 t)) r j
  refine (congrFun (stored_eq _ _ _ _ _ _) _).trans (hb.trans ?_)
  rw [gating_at, gated, numbers_at, place_row, biasBlock_at]
  refine congrArg (_ * ·) (congrArg (· + _) (Finset.sum_congr rfl fun x _ => ?_))
  rw [loaded_at, mixBlock_at, weightsBlock_at, gates_at, chunk_row, mul_ite, mul_zero]
  have hg : gates (iblk m c 1 t) x j = fun k => gelu (Z m c (row t x) (kcol j k)) := funext fun k => by
    rw [gates, gates_at]
    rfl
  rw [hg]

/-- The tiles cover the array. -/
theorem covered : (cfg0.win 6).Covers :=
  (cfg0.win 6).covers_of_indexMap_surj rfl (by decide) fun β => by
    have l0 : (β 0).val < 256 := (β 0).isLt
    have l1 : (β 1).val < 1 := (β 1).isLt
    let i : grid0.Coords := fun a => match a with
      | ⟨0, _⟩ => ⟨(β 0).val, l0⟩
    have h := idx6 i
    refine ⟨i, fun a => ?_⟩
    refine (congrFun h a).trans ?_
    match a with
    | ⟨0, _⟩ => rfl
    | ⟨1, _⟩ => exact (Nat.lt_one_iff.mp l1).symm

/-- An entry of a tile of the result, in the array. -/
theorem tile_at (P : FVec Ideal S32768x512 .f32) (t : Fin cfg0.N) (r : Fin 128) (j : Fin 512) :
    P (ix2 (row t r) j) = ((cfg0.win 6).blk t).view.read (Elt Ideal) P (ix2 r j) := by
  have h0 : win0_6.index t 0 = (tile t).val := congrFun (idx6 (grid0.coords t)) 0
  have h1 : win0_6.index t 1 = 0 := congrFun (idx6 (grid0.coords t)) 1
  blk_ext [iblk, row]
  all_goals omega

/-- Every index of a tile is a row and a column. -/
theorem entry (y : S128x512.Idx) : ∃ (r : Fin 128) (j : Fin 512), y = ix2 r j := ⟨y 0, y 1, by
  funext a
  match a with
  | ⟨0, _⟩ => rfl
  | ⟨1, _⟩ => rfl⟩

/-- What a point writes back is its tile of an array with the entries that it stores. -/
theorem written (P : FVec Ideal S32768x512 .f32) (t : Fin cfg0.N) (A : Vec Ideal S128x512 .f32)
    (h : ∀ r j, A (ix2 r j) = P (ix2 (row t r) j)) (y : S128x512.Idx) :
    A y = ((cfg0.win 6).blk t).view.read (Elt Ideal) P y := by
  obtain ⟨r, j, rfl⟩ := entry y
  exact (h r j).trans (tile_at P t r j)

/-- The array after the grid is the gating unit. -/
theorem array : (dats m 0 c).arrAt 6 cfg0.N = gating m c :=
  (dats m 0 c).arrAt_eq_of_covers 6 _ covered fun t hf y => by
    rw [after0_6]
    have hs := stored_at m c t
    generalize out0_6 (iblk m c 0 t) (iblk m c 1 t) (iblk m c 2 t) (iblk m c 3 t) (iblk m c 4 t) (iblk m c 5 t) = A at hs ⊢
    generalize gating m c = P at hs ⊢
    exact written P t A hs y

variable (ρ : Dev nD → PrngReg)

/-- The kernel's run leaves the gating unit in its result and its arguments as they were. -/
theorem run_gating : θ_run defs (onTc (τ := τ) (main (F := Ideal))) ⟨m, fun _ => 0, ρ⟩ (fun r => ∀ c : Dev nD,
      r.2.mem ((c.tc : Thread nD τ).loc main_v16) = gating m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (array m c), (h c).2⟩) (Value.run_blocks m ρ)

end Cert.Kernel4Ideal.Proj

end
-- ==== Proof.Proj.SguRef.lean ====
/- The spatial gating unit's reference: each entry of its result. -/
module

public import proofs.«01_k».proof.Proof.Proj.SguSpec
public import proofs.«01_k».proof.Proof.Gen.Reference4Ideal.Run
public import Idealize.ShloMosaic.Lib.Quiescent
public import Idealize.ShloMosaic.Lib.Tactic.CleanTypes

@[expose] public section

set_option maxRecDepth 16384

noncomputable section

namespace Cert.Reference4Ideal.Proj

open Cert.Reference4Ideal.Gen Cert.Sgu
open Idealize.ShloMosaic Idealize.ShloMosaic.TcCoe Idealize.ShloMosaic.Tactic Idealize.ShloMosaic.StableHlo
open Idealize.SL.Sem

variable (m : (ℓ : Loc nD τ sig) → Buf (Elt Ideal) ℓ) (c : Dev nD)

/-- The four arguments, by their places. -/
abbrev Z (t : Fin 32768) (j : Fin 2560) : EReal := (m ((c.tc : Thread nD τ).loc main_arg0) : FVec Ideal S32768x2560 .f32) (ix2 t j)
abbrev G (h : Fin 8) (d : Fin 64) : EReal := (m ((c.tc : Thread nD τ).loc main_arg1) : FVec Ideal S8x64 .f32) (ix2 h d)
abbrev W (h : Fin 8) (p x : Fin 128) : EReal := (m ((c.tc : Thread nD τ).loc main_arg2) : FVec Ideal S8x128x128 .f32) (ix3 h p x)
abbrev B (h : Fin 8) (p : Fin 128) : EReal := (m ((c.tc : Thread nD τ).loc main_arg3) : FVec Ideal S8x128 .f32) (ix2 h p)

/-- The reference's result, read at an entry. -/
theorem result_at (t : Fin 32768) (j : Fin 512) :
    (Value.res_main_v48 m c : FVec Ideal S32768x512 .f32) (ix2 t j) = gated (Z m c) (G m c) (W m c) (B m c) t j := by
  unfold Value.res_main_v48
  clean_types
  pointwise
  have gl : ∀ x : EReal, x * (Ideal.ofBits FTy.f32 0x3F000000#32 * (1 + Ideal.tanh (Ideal.ofBits FTy.f32 0x3F4C422A#32
    * (x + Ideal.ofBits FTy.f32 0x3D372713#32 * (x * x * x))))) = gelu x := fun _ => rfl
  simp only [gl]
  unfold gated
  refine congrArg (_ * ·) (congrArg (· + _) (Finset.sum_congr rfl fun x _ => ?_))
  exact select_ge (place t) x _ _

variable (ρ : Dev nD → PrngReg)

/-- The reference's run leaves in its result the gating unit of its arguments, which it leaves as they were. -/
theorem run_gated : θ_run defs (onTc (τ := τ) (main (F := Ideal))) ⟨m, fun _ => 0, ρ⟩ fun r => ∀ c : Dev nD,
      (r.2.mem ((c.tc : Thread nD τ).loc main_v48)
        = (fun i => gated (Z m c) (G m c) (W m c) (B m c) (i 0) (i 1) : FVec Ideal S32768x512 .f32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Value.run (F := Ideal) m ρ)
  funext i
  obtain ⟨t, j, rfl⟩ : ∃ (t : Fin 32768) (j : Fin 512), i = ix2 t j := ⟨i 0, i 1, by
    funext a
    match a with
    | ⟨0, _⟩ => rfl
    | ⟨1, _⟩ => rfl⟩
  exact result_at m c t j

/-- The reference runs, leaves its arguments unchanged and has no counters to leave. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Value.run (F := Ideal) m ρ)

end Cert.Reference4Ideal.Proj

end
-- ==== Proof.Proj.Queries.lean ====
/- The order of the routers' queries: the first halves of the eight heads' queries, then the second ones. -/
module

public import proofs.«01_k».proof.Proof.Proj.Spec

@[expose] public section

noncomputable section

namespace Cert.Proj

open Idealize.ShloMosaic

/-- The column of the matrix for the `j`-th entry of the queries: the half `j / 1024` of the head `j / 128 % 8`. -/
def place (j : Fin 2048) : Fin 2048 := ⟨j.val / 128 % 8 * 256 + j.val / 1024 * 128 + j.val % 128, by omega⟩

end Cert.Proj

end
-- ==== Proof.Proj.QueryKernel.lean ====
/- The queries' kernel: every tile holds its rows, normalised, against the columns of the matrix in the order of the halves. -/
module

public import proofs.«01_k».proof.Proof.Proj.Queries
public import proofs.«01_k».proof.Proof.Gen.Kernel5Ideal.Value
public import Idealize.ShloMosaic.Lib.Tactic.CleanTypes
public import Idealize.ShloMosaic.Lib.StableHlo.RunRead
public import Idealize.ShloMosaic.Lib.Pipeline.ValueKit.Point
public import Idealize.ShloMosaic.Lib.Pipeline.Covers

@[expose] public section

set_option maxRecDepth 16384

noncomputable section

namespace Cert.Kernel5Ideal.Proj

open Cert.Kernel5Ideal.Gen Cert.Proj
open Idealize.ShloMosaic Idealize.ShloMosaic.TcCoe Idealize.ShloMosaic.Tactic
open Idealize.SL.Sem

variable (m : (ℓ : Loc nD τ sig) → Buf (Elt Ideal) ℓ) (c : Dev nD)

/-- The rows, the weights of the norm and the matrix the run is given. -/
abbrev X : FVec Ideal S32768x1024 .f32 := m ((c : Thread nD τ).loc main_arg0)
abbrev W : FVec Ideal S1024 .f32 := m ((c : Thread nD τ).loc main_arg1)
abbrev M : FVec Ideal S1024x2048 .f32 := m ((c : Thread nD τ).loc main_arg2)

/-- The queries of the rows `x` with the weights `g` by the matrix `w`. -/
def queries (x : FVec Ideal S32768x1024 .f32) (g : FVec Ideal S1024 .f32) (w : FVec Ideal S1024x2048 .f32) : FVec Ideal S32768x2048 .f32 :=
  fun i => normed (fun k => x (ix2 (i 0) k)) (fun k => g (ix1 k)) (fun k => w (ix2 k (place (i 1))))

/-- What the body computes of its blocks. -/
theorem pay_at (x : Vec Ideal S256x1024 .f32) (g : Vec Ideal S1x1024 .f32) (w : Vec Ideal S1024x2048 .bf16) (r : Fin 256) (j : Fin 2048) :
    k0_pay1 (F := Ideal) x g w (ix2 r j) = normed (fun k => x (ix2 r k)) (fun k => g (ix2 0 k)) (fun k => w (ix2 k j)) := by
  pointwise [k0_pay1]
  rfl

theorem idx0 : ∀ i : grid0.Coords, cc0_transform_0 i = ![(i 0).val, 0] := by decide +kernel
theorem idx1 : ∀ i : grid0.Coords, cc0_transform_1 i = ![0, 0] := by decide +kernel
theorem idx2 : ∀ i : grid0.Coords, cc0_transform_2 i = ![0, 0] := by decide +kernel
theorem idx3 : ∀ i : grid0.Coords, cc0_transform_3 i = ![(i 0).val, 0] := by decide +kernel

/-- The tile of a point. -/
def tile (t : Fin cfg0.N) : Fin 128 := grid0.coords t 0

/-- Its row `r` in the array. -/
def row (t : Fin cfg0.N) (r : Fin 256) : Fin 32768 := ⟨256 * (tile t).val + r.val, by
  have := (tile t).isLt
  omega⟩

/-- A block of rows. -/
theorem rows_at (t : Fin cfg0.N) (r : Fin 256) (k : Fin 1024) : iblk m c 0 t (ix2 r k) = X m c (ix2 (row t r) k) := by
  have h0 : win0_0.index t 0 = (tile t).val := congrFun (idx0 (grid0.coords t)) 0
  have h1 : win0_0.index t 1 = 0 := congrFun (idx0 (grid0.coords t)) 1
  blk_ext [iblk, V, row]
  all_goals omega

/-- The weights, whole at every point. -/
theorem weights_at (t : Fin cfg0.N) (k : Fin 1024) : iblk m c 1 t (ix2 0 k) = W m c (ix1 k) := by
  have h0 : win0_1.index t 0 = 0 := congrFun (idx1 (grid0.coords t)) 0
  have h1 : win0_1.index t 1 = 0 := congrFun (idx1 (grid0.coords t)) 1
  have e : (V m c main_v4 : FVec Ideal S1x1024 .f32) (ix2 0 k) = W m c (ix1 k) := by
    unfold V hostOps0
    after_reads_simp
    pointwise
  rw [← e]
  blk_ext [iblk]
  all_goals omega

/-- The host's matrix has the columns in the order of the halves. -/
theorem columns_at (k : Fin 1024) (j : Fin 2048) : (V m c main_v3 : Vec Ideal S1024x2048 .bf16) (ix2 k j) = M m c (ix2 k (place j)) := by
  unfold V hostOps0
  after_reads_simp
  pointwise
  rfl

/-- The matrix, whole at every point. -/
theorem matrix_at (t : Fin cfg0.N) (k : Fin 1024) (j : Fin 2048) : iblk m c 2 t (ix2 k j) = M m c (ix2 k (place j)) := by
  have h0 : win0_2.index t 0 = 0 := congrFun (idx2 (grid0.coords t)) 0
  have h1 : win0_2.index t 1 = 0 := congrFun (idx2 (grid0.coords t)) 1
  rw [← columns_at m c k j]
  blk_ext [iblk]
  all_goals omega

theorem zeros : (![0, 0] : Fin 2 → ℕ) = fun _ => 0 := funext fun a => match a with
  | ⟨0, _⟩ => rfl
  | ⟨1, _⟩ => rfl

theorem queries_at (x : FVec Ideal S32768x1024 .f32) (g : FVec Ideal S1024 .f32) (w : FVec Ideal S1024x2048 .f32) (i : Fin 32768) (j : Fin 2048) :
    queries x g w (ix2 i j) = normed (fun k => x (ix2 i k)) (fun k => g (ix1 k)) (fun k => w (ix2 k (place j))) := rfl

/-- What a point stores at a row and a column of its tile. -/
theorem stored_at (t : Fin cfg0.N) (r : Fin 256) (j : Fin 2048) :
    out0_3 (iblk m c 0 t) (iblk m c 1 t) (iblk m c 2 t) (ix2 r j) = queries (X m c) (W m c) (M m c) (ix2 (row t r) j) := by
  unfold out0_3
  rw [View.canon_unit_zero zeros, View.ld_unit_zero zeros, View.ld_unit_zero zeros, View.ld_unit_zero zeros]
  refine (pay_at _ _ _ r j).trans ?_
  rw [queries_at]
  refine congr (congrArg₂ normed (funext fun k => rows_at m c t r k) (funext fun k => weights_at m c t k)) (funext fun k => matrix_at m c t k j)

/-- The tiles cover the array. -/
theorem covered : (cfg0.win 3).Covers :=
  (cfg0.win 3).covers_of_indexMap_surj rfl (by decide) fun β => by
    have l0 : (β 0).val < 128 := (β 0).isLt
    have l1 : (β 1).val < 1 := (β 1).isLt
    let i : grid0.Coords := fun a => match a with
      | ⟨0, _⟩ => ⟨(β 0).val, l0⟩
    have h := idx3 i
    refine ⟨i, fun a => ?_⟩
    refine (congrFun h a).trans ?_
    match a with
    | ⟨0, _⟩ => rfl
    | ⟨1, _⟩ => exact (Nat.lt_one_iff.mp l1).symm

/-- An entry of a tile of the result, in the array. -/
theorem tile_at (P : FVec Ideal S32768x2048 .f32) (t : Fin cfg0.N) (r : Fin 256) (j : Fin 2048) :
    P (ix2 (row t r) j) = ((cfg0.win 3).blk t).view.read (Elt Ideal) P (ix2 r j) := by
  have h0 : win0_3.index t 0 = (tile t).val := congrFun (idx3 (grid0.coords t)) 0
  have h1 : win0_3.index t 1 = 0 := congrFun (idx3 (grid0.coords t)) 1
  blk_ext [iblk, row]
  all_goals omega

/-- Every index of a tile is a row and a column. -/
theorem entry (y : S256x2048.Idx) : ∃ (r : Fin 256) (j : Fin 2048), y = ix2 r j := ⟨y 0, y 1, by
  funext a
  match a with
  | ⟨0, _⟩ => rfl
  | ⟨1, _⟩ => rfl⟩

/-- What a point writes back is its tile of an array with the entries that it stores. -/
theorem written (P : FVec Ideal S32768x2048 .f32) (t : Fin cfg0.N) (B : Vec Ideal S256x2048 .f32)
    (h : ∀ r j, B (ix2 r j) = P (ix2 (row t r) j)) (y : S256x2048.Idx) :
    B y = ((cfg0.win 3).blk t).view.read (Elt Ideal) P y := by
  obtain ⟨r, j, rfl⟩ := entry y
  exact (h r j).trans (tile_at P t r j)

/-- The array after the grid is the queries'. -/
theorem array : (dats m 0 c).arrAt 3 cfg0.N = queries (X m c) (W m c) (M m c) :=
  (dats m 0 c).arrAt_eq_of_covers 3 _ covered fun t hf y => by
    rw [after0_3]
    have hs := stored_at m c t
    generalize out0_3 (iblk m c 0 t) (iblk m c 1 t) (iblk m c 2 t) = B at hs ⊢
    generalize queries (X m c) (W m c) (M m c) = P at hs ⊢
    exact written P t B hs y

variable (ρ : Dev nD → PrngReg)

/-- The kernel's run leaves the queries in its result and its arguments as they were. -/
theorem run_queries : θ_run defs (onTc (τ := τ) (main (F := Ideal))) ⟨m, fun _ => 0, ρ⟩ (fun r => ∀ c : Dev nD,
      r.2.mem ((c.tc : Thread nD τ).loc main_v5) = queries (X m c) (W m c) (M m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (array m c), (h c).2⟩) (Value.run_blocks m ρ)

end Cert.Kernel5Ideal.Proj

end
-- ==== Proof.Proj.QueryRef.lean ====
/- The queries' reference: each entry is a normalised row against the column for its head and half. -/
module

public import proofs.«01_k».proof.Proof.Proj.Queries
public import proofs.«01_k».proof.Proof.Gen.Reference5Ideal.Run
public import Idealize.ShloMosaic.Lib.Quiescent

@[expose] public section

set_option maxRecDepth 16384

noncomputable section

namespace Cert.Reference5Ideal.Proj

open Cert.Reference5Ideal.Gen Cert.Proj
open Idealize.ShloMosaic Idealize.ShloMosaic.TcCoe Idealize.ShloMosaic.Tactic Idealize.ShloMosaic.StableHlo
open Idealize.SL.Sem

/-- The host's norm and product, with the halves in order, read at an entry. -/
theorem query_at (x : FVec Ideal S32768x1024 .f32) (g : FVec Ideal S1024 .f32) (w : FVec Ideal S1024x2048 .f32) (t : Fin 32768) (j : Fin 2048) :
    shapeCast S32768x2048 (transpose S32768x2x8x128 [0, 2, 1, 3] (shapeCast S32768x8x2x128 (Host.dotGeneral dot_S32768x1024_S1024x2048_S32768x2048_1_0_0_1_n_n none (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) w) shapeCasts_S32768x2048_S32768x8x2x128) transposes_S32768x8x2x128_S32768x2x8x128_0_2_1_3) shapeCasts_S32768x2x8x128_S32768x2048 (ix2 t j)
      = normed (fun k => x (ix2 t k)) (fun k => g (ix1 k)) (fun k => w (ix2 k (place j))) := by
  pointwise
  rfl

variable (m : (ℓ : Loc nD τ sig) → Buf (Elt Ideal) ℓ) (ρ : Dev nD → PrngReg)

/-- The reference's run leaves in its result the queries of its arguments, which it leaves as they were. -/
theorem run_queries : θ_run defs (onTc (τ := τ) (main (F := Ideal))) ⟨m, fun _ => 0, ρ⟩ fun r => ∀ c : Dev nD,
      (r.2.mem ((c.tc : Thread nD τ).loc main_v16) = (fun i => normed
          (fun k => (m ((c.tc : Thread nD τ).loc main_arg0) : FVec Ideal S32768x1024 .f32) (ix2 (i 0) k))
          (fun k => (m ((c.tc : Thread nD τ).loc main_arg1) : FVec Ideal S1024 .f32) (ix1 k))
          (fun k => (m ((c.tc : Thread nD τ).loc main_arg2) : FVec Ideal S1024x2048 .f32) (ix2 k (place (i 1)))) : FVec Ideal S32768x2048 .f32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run (F := Ideal) m ρ)
  funext i
  obtain ⟨t, j, rfl⟩ : ∃ (t : Fin 32768) (j : Fin 2048), i = ix2 t j := ⟨i 0, i 1, by
    funext a
    match a with
    | ⟨0, _⟩ => rfl
    | ⟨1, _⟩ => rfl⟩
  exact query_at _ _ _ t j

/-- The reference runs, leaves its arguments unchanged and has no counters to leave. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Value.run (F := Ideal) m ρ)

end Cert.Reference5Ideal.Proj

end
-- ==== Proof.lean ====
module

public import proofs.«01_k».proof.Defs
public import proofs.«01_k».proof.Proof.Gen.Kernel
public import proofs.«01_k».proof.Proof.Gen.Kernel2.Frame
public import proofs.«01_k».proof.Proof.Gen.Kernel3.Frame
public import proofs.«01_k».proof.Proof.Bits.Frame
public import proofs.«01_k».proof.Proof.Attn.Pre
public import proofs.«01_k».proof.Proof.Attn.Array
public import proofs.«01_k».proof.Proof.Attn.RefRun
public import proofs.«01_k».proof.Proof.Proj.NormKernel
public import proofs.«01_k».proof.Proof.Proj.NormRef
public import proofs.«01_k».proof.Proof.Proj.OutKernel
public import proofs.«01_k».proof.Proof.Proj.OutRef
public import proofs.«01_k».proof.Proof.Gen.Kernel4.Frame
public import proofs.«01_k».proof.Proof.Proj.SguKernel
public import proofs.«01_k».proof.Proof.Proj.SguRef
public import proofs.«01_k».proof.Proof.Gen.Kernel5.Frame
public import proofs.«01_k».proof.Proof.Proj.QueryKernel
public import proofs.«01_k».proof.Proof.Proj.QueryRef

@[expose] public section

noncomputable section

namespace Cert.Proof

open Idealize.ShloMosaic Idealize.SL.Sem Cert.Attn

/-- Real projections are the reals that the kernel's attention is stated of. -/
theorem reads (z : Vec Ideal Cert.KernelIdeal.S16x2048x2560 .f32) (hz : Cert.KernelIdeal.Attn.AllReal z) :
    Cert.ReferenceIdeal.Attn.Reads z (Cert.KernelIdeal.Attn.given z) where
  z b t j := Cert.KernelIdeal.Attn.given_z hz b t j
  C _ := rfl
  S _ := rfl

/-- From the same real projections the kernel and the reference leave the same attention. -/
theorem algebraic [hPre : Cert.Pre_all_finite.Facts] :
    Cert.algebraic_KernelIdeal_ReferenceIdeal_pre_all_finite (hKernelIdeal := Cert.KernelIdeal.Gen.facts)
      (hReferenceIdeal := Cert.ReferenceIdeal.Gen.facts) := by
  intro m g m' g' hpre hsame
  have hz : ∀ c, Cert.KernelIdeal.Attn.AllReal (Cert.KernelIdeal.Attn.Z m c) := fun c => all_real _ (hpre c)
  refine ⟨fun c => Cert.KernelIdeal.Attn.attention (Cert.KernelIdeal.Attn.Z m c), Cert.KernelIdeal.Attn.run_attention m g hz, ?_⟩
  refine Cert.ReferenceIdeal.Attn.run_attention m' g' (fun c => Cert.KernelIdeal.Attn.given (Cert.KernelIdeal.Attn.Z m c)) fun c => ?_
  rw [hsame c]
  exact reads _ (hz c)

/-- From the same rows, weights and matrix the two first projections are the same array. -/
theorem algebraic_norm : Cert.algebraic_Kernel2Ideal_Reference2Ideal (hKernel2Ideal := Cert.Kernel2Ideal.Gen.facts)
    (hReference2Ideal := Cert.Reference2Ideal.Gen.facts) := by
  intro m g m' g' _ hsame
  refine ⟨fun c => Cert.Kernel2Ideal.Proj.projection (Cert.Kernel2Ideal.Proj.X m c) (Cert.Kernel2Ideal.Proj.W m c) (Cert.Kernel2Ideal.Proj.M m c),
    Cert.Kernel2Ideal.Proj.run_projection m g, ?_⟩
  refine (θ_run _ _ _).mono (fun r h c => ⟨(h c).1.trans ?_, (h c).2⟩) (Cert.Reference2Ideal.Proj.run_projection m' g')
  rw [(hsame c).1, (hsame c).2.1, (hsame c).2.2]
  rfl

/-- From the same rows, matrix and input the two output projections are the same array. -/
theorem algebraic_out : Cert.algebraic_Kernel3Ideal_Reference3Ideal (hKernel3Ideal := Cert.Kernel3Ideal.Gen.facts)
    (hReference3Ideal := Cert.Reference3Ideal.Gen.facts) := by
  intro m g m' g' _ hsame
  refine ⟨fun c => Cert.Kernel3Ideal.Proj.residual (Cert.Kernel3Ideal.Proj.P m c) (Cert.Kernel3Ideal.Proj.Q m c) (Cert.Kernel3Ideal.Proj.M m c)
    (Cert.Kernel3Ideal.Proj.X m c), Cert.Kernel3Ideal.Proj.run_residual m g, ?_⟩
  refine (θ_run _ _ _).mono (fun r h c => ⟨(h c).1.trans ?_, (h c).2⟩) (Cert.Reference3Ideal.Proj.run_residual m' g')
  rw [(hsame c).1, (hsame c).2.1, (hsame c).2.2.1, (hsame c).2.2.2]
  rfl

/-- From the same arguments the two gating units are the same array. -/
theorem algebraic_gate : Cert.algebraic_Kernel4Ideal_Reference4Ideal (hKernel4Ideal := Cert.Kernel4Ideal.Gen.facts)
    (hReference4Ideal := Cert.Reference4Ideal.Gen.facts) := by
  intro m g m' g' _ hsame
  refine ⟨fun c => Cert.Kernel4Ideal.Proj.gating m c, Cert.Kernel4Ideal.Proj.run_gating m g, ?_⟩
  refine (θ_run _ _ _).mono (fun r h c => ⟨(h c).1.trans ?_, (h c).2⟩) (Cert.Reference4Ideal.Proj.run_gated m' g')
  unfold Cert.Reference4Ideal.Proj.Z Cert.Reference4Ideal.Proj.G Cert.Reference4Ideal.Proj.W Cert.Reference4Ideal.Proj.B
  rw [(hsame c).1, (hsame c).2.1, (hsame c).2.2.1, (hsame c).2.2.2]
  rfl

/-- From the same rows, weights and matrix the routers' queries are the same array. -/
theorem algebraic_query : Cert.algebraic_Kernel5Ideal_Reference5Ideal (hKernel5Ideal := Cert.Kernel5Ideal.Gen.facts)
    (hReference5Ideal := Cert.Reference5Ideal.Gen.facts) := by
  intro m g m' g' _ hsame
  refine ⟨fun c => Cert.Kernel5Ideal.Proj.queries (Cert.Kernel5Ideal.Proj.X m c) (Cert.Kernel5Ideal.Proj.W m c) (Cert.Kernel5Ideal.Proj.M m c),
    Cert.Kernel5Ideal.Proj.run_queries m g, ?_⟩
  refine (θ_run _ _ _).mono (fun r h c => ⟨(h c).1.trans ?_, (h c).2⟩) (Cert.Reference5Ideal.Proj.run_queries m' g')
  rw [(hsame c).1, (hsame c).2.1, (hsame c).2.2]
  rfl

/-- The claims: every program runs and leaves its arguments, each idealization is its kernel's own text, and the kernels compute the
    attention, the normalised projection, the output projection, the gating unit and the routers' queries. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, pre_facts,
    fun m g _ => Cert.Kernel.Attn.frame m g,
    fun m g _ => Cert.KernelIdeal.Attn.frame m g,
    fun m g _ => Cert.KernelIdeal.Attn.frame m g,
    fun m g _ => Cert.ReferenceIdeal.Attn.frame m g,
    fun m g _ => Cert.ReferenceIdeal.Attn.frame m g,
    fun m g _ => Cert.Kernel2.Gen.frame m g,
    fun m g _ => Cert.Kernel2Ideal.Gen.frame m g,
    fun m g _ => Cert.Reference2Ideal.Proj.frame m g,
    fun m g _ => Cert.Kernel3.Gen.frame m g,
    fun m g _ => Cert.Kernel3Ideal.Gen.frame m g,
    fun m g _ => Cert.Reference3Ideal.Proj.frame m g,
    fun m g _ => Cert.Kernel4.Gen.frame m g,
    fun m g _ => Cert.Kernel4Ideal.Gen.frame m g,
    fun m g _ => Cert.Reference4Ideal.Proj.frame m g,
    fun m g _ => Cert.Kernel5.Gen.frame m g,
    fun m g _ => Cert.Kernel5Ideal.Gen.frame m g,
    fun m g _ => Cert.Reference5Ideal.Proj.frame m g,
    trivial,
    algebraic (hPre := pre_facts),
    trivial,
    algebraic_norm,
    trivial,
    algebraic_out,
    trivial,
    algebraic_gate,
    trivial,
    algebraic_query⟩

end Cert.Proof

end
